-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_ones [hPre_finite_and_ones : Cert.Pre_finite_and_ones.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).1 = (fun _ => 1#1)
    ∧ (Cert.Pre_finite_and_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.1 = (fun _ => 1#1)
    ∧ (Cert.Pre_finite_and_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.1 = (fun _ => 1#1)
    ∧ (Cert.Pre_finite_and_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.1 = (fun _ => 1#1)
    ∧ (Cert.Pre_finite_and_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.1 = (fun _ => 1#1)
    ∧ (Cert.Pre_finite_and_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.1 = (fun _ => 1#1)
    ∧ (Cert.Pre_finite_and_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.1 = (fun _ => 1#1)
    ∧ (Cert.Pre_finite_and_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.1 = (fun _ => 1#1)
    ∧ (Cert.Pre_finite_and_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.1 = (fun _ => 1#1)
    ∧ (Cert.Pre_finite_and_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.1 = (fun _ => 1#1)
    ∧ (Cert.Pre_finite_and_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.1 = (fun _ => 1#1)
    ∧ (Cert.Pre_finite_and_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.2.1 = (fun _ => 1#1)
    ∧ (Cert.Pre_finite_and_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.2.2.1 = (fun _ => 1#1)
    ∧ (Cert.Pre_finite_and_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.2.2.2.1 = (fun _ => 1#1)
    ∧ (Cert.Pre_finite_and_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.2.2.2.2.1 = (fun _ => 1#1)
    ∧ (Cert.Pre_finite_and_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_ones [hPre_finite_and_ones : Cert.Pre_finite_and_ones.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).1 = (fun _ => 1#1)
    ∧ (Cert.Pre_finite_and_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.1 = (fun _ => 1#1)
    ∧ (Cert.Pre_finite_and_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.1 = (fun _ => 1#1)
    ∧ (Cert.Pre_finite_and_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.1 = (fun _ => 1#1)
    ∧ (Cert.Pre_finite_and_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.1 = (fun _ => 1#1)
    ∧ (Cert.Pre_finite_and_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.1 = (fun _ => 1#1)
    ∧ (Cert.Pre_finite_and_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.1 = (fun _ => 1#1)
    ∧ (Cert.Pre_finite_and_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.1 = (fun _ => 1#1)
    ∧ (Cert.Pre_finite_and_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.1 = (fun _ => 1#1)
    ∧ (Cert.Pre_finite_and_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.1 = (fun _ => 1#1)
    ∧ (Cert.Pre_finite_and_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.1 = (fun _ => 1#1)
    ∧ (Cert.Pre_finite_and_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.2.1 = (fun _ => 1#1)
    ∧ (Cert.Pre_finite_and_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.2.2.1 = (fun _ => 1#1)
    ∧ (Cert.Pre_finite_and_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.2.2.2.1 = (fun _ => 1#1)
    ∧ (Cert.Pre_finite_and_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.2.2.2.2.1 = (fun _ => 1#1)
    ∧ (Cert.Pre_finite_and_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_finite_and_ones [hKernelIdeal : Cert.KernelIdeal.Facts] [hPre_finite_and_ones : Cert.Pre_finite_and_ones.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_ones m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_finite_and_ones [hReferenceIdeal : Cert.ReferenceIdeal.Facts] [hPre_finite_and_ones : Cert.Pre_finite_and_ones.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_ones m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal_pre_finite_and_ones [hKernelIdeal : Cert.KernelIdeal.Facts] [hReferenceIdeal : Cert.ReferenceIdeal.Facts] [hPre_finite_and_ones : Cert.Pre_finite_and_ones.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_ones m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_v102) = v1 c
          ∧ r.2.mem ((c.tc : Thread Cert.ReferenceIdeal.nD Cert.ReferenceIdeal.τ).loc Cert.ReferenceIdeal.main_v184) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_and_ones : Cert.Pre_finite_and_ones.Facts),
    quiescent_Kernel (hKernel := hKernel)
    ∧ quiescent_KernelIdeal (hKernelIdeal := hKernelIdeal)
    ∧ quiescent_KernelIdeal_pre_finite_and_ones (hKernelIdeal := hKernelIdeal) (hPre_finite_and_ones := hPre_finite_and_ones)
    ∧ quiescent_ReferenceIdeal (hReferenceIdeal := hReferenceIdeal)
    ∧ quiescent_ReferenceIdeal_pre_finite_and_ones (hReferenceIdeal := hReferenceIdeal) (hPre_finite_and_ones := hPre_finite_and_ones)
    ∧ preserves_Kernel_KernelIdeal
    ∧ algebraic_KernelIdeal_ReferenceIdeal_pre_finite_and_ones (hKernelIdeal := hKernelIdeal) (hReferenceIdeal := hReferenceIdeal) (hPre_finite_and_ones := hPre_finite_and_ones)
-- ==== Pre_finite_and_ones.lean ====
abbrev S16x512x512 : Shape := ⟨3, ![16, 512, 512]⟩
abbrev S16x512 : Shape := ⟨2, ![16, 512]⟩
abbrev S512x512x3 : Shape := ⟨3, ![512, 512, 3]⟩
abbrev S512 : Shape := ⟨1, ![512]⟩
abbrev S1x512x1 : Shape := ⟨3, ![1, 512, 1]⟩
abbrev S1 : Shape := ⟨1, ![1]⟩
abbrev S_ : Shape := ⟨0, ![]⟩

class Facts : Prop where
  bcast_S_S16x512 : S_.BroadcastsInDim S16x512 (![] : Fin 0 → Fin S16x512.rank)
  bcast_S_S16x512x512 : S_.BroadcastsInDim S16x512x512 (![] : Fin 0 → Fin S16x512x512.rank)
  bcast_S_S512x512x3 : S_.BroadcastsInDim S512x512x3 (![] : Fin 0 → Fin S512x512x3.rank)
  bcast_S_S512 : S_.BroadcastsInDim S512 (![] : Fin 0 → Fin S512.rank)
  bcast_S_S1x512x1 : S_.BroadcastsInDim S1x512x1 (![] : Fin 0 → Fin S1x512x1.rank)

variable [Facts]

def fn_part2 {F : FTy → Type} [FloatOps F] (main_arg14 : FVec F S512 .f32) (main_arg15 : FVec F S512 .f32) (main_arg16 : FVec F S1x512x1 .f32) (main_v1 : IVec S16x512 1) (main_v4 : IVec S16x512x512 1) (main_v7 : IVec S512x512x3 1) (main_v10 : IVec S512 1) (main_v13 : IVec S512 1) (main_v16 : IVec S512 1) (main_v19 : IVec S512x512x3 1) (main_v22 : IVec S512 1) (main_v25 : IVec S512 1) (main_v28 : IVec S512 1) (main_v31 : IVec S1x512x1 1) (main_v34 : IVec S512x512x3 1) (main_v35 : FVec F S512 .f32) : IVec S16x512 1 × IVec S16x512x512 1 × IVec S512x512x3 1 × IVec S512 1 × IVec S512 1 × IVec S512 1 × IVec S512x512x3 1 × IVec S512 1 × IVec S512 1 × IVec S512 1 × IVec S1x512x1 1 × IVec S512x512x3 1 × IVec S512 1 × IVec S512 1 × IVec S512 1 × IVec S1x512x1 1 :=
  let main_cst_10 : FVec F S_ .f32 := constant S_ .f32 0x7F800000#32
  let main_v36 : FVec F S512 .f32 := broadcastInDim S512 ![] bcast_S_S512 main_cst_10
  let main_v37 : IVec S512 1 := cmpf .olt main_v35 main_v36
  let main_v38 : FVec F S512 .f32 := Host.absf main_arg14
  let main_cst_11 : FVec F S_ .f32 := constant S_ .f32 0x7F800000#32
  let main_v39 : FVec F S512 .f32 := broadcastInDim S512 ![] bcast_S_S512 main_cst_11
  let main_v40 : IVec S512 1 := cmpf .olt main_v38 main_v39
  let main_v41 : FVec F S512 .f32 := Host.absf main_arg15
  let main_cst_12 : FVec F S_ .f32 := constant S_ .f32 0x7F800000#32
  let main_v42 : FVec F S512 .f32 := broadcastInDim S512 ![] bcast_S_S512 main_cst_12
  let main_v43 : IVec S512 1 := cmpf .olt main_v41 main_v42
  let main_v44 : FVec F S1x512x1 .f32 := Host.absf main_arg16
  let main_cst_13 : FVec F S_ .f32 := constant S_ .f32 0x7F800000#32
  let main_v45 : FVec F S1x512x1 .f32 := broadcastInDim S1x512x1 ![] bcast_S_S1x512x1 main_cst_13
  let main_v46 : IVec S1x512x1 1 := cmpf .olt main_v44 main_v45
  (main_v1, main_v4, main_v7, main_v10, main_v13, main_v16, main_v19, main_v22, main_v25, main_v28, main_v31, main_v34, main_v37, main_v40, main_v43, main_v46)

def fn_part1 {F : FTy → Type} [FloatOps F] (main_arg7 : FVec F S512 .f32) (main_arg8 : FVec F S512 .f32) (main_arg9 : FVec F S512 .f32) (main_arg10 : FVec F S1x512x1 .f32) (main_arg12 : FVec F S512x512x3 .f32) (main_arg13 : FVec F S512 .f32) (main_arg14 : FVec F S512 .f32) (main_arg15 : FVec F S512 .f32) (main_arg16 : FVec F S1x512x1 .f32) (main_v1 : IVec S16x512 1) (main_v4 : IVec S16x512x512 1) (main_v7 : IVec S512x512x3 1) (main_v10 : IVec S512 1) (main_v13 : IVec S512 1) (main_v16 : IVec S512 1) (main_v17 : FVec F S512x512x3 .f32) : IVec S16x512 1 × IVec S16x512x512 1 × IVec S512x512x3 1 × IVec S512 1 × IVec S512 1 × IVec S512 1 × IVec S512x512x3 1 × IVec S512 1 × IVec S512 1 × IVec S512 1 × IVec S1x512x1 1 × IVec S512x512x3 1 × IVec S512 1 × IVec S512 1 × IVec S512 1 × IVec S1x512x1 1 :=
  let main_cst_4 : FVec F S_ .f32 := constant S_ .f32 0x7F800000#32
  let main_v18 : FVec F S512x512x3 .f32 := broadcastInDim S512x512x3 ![] bcast_S_S512x512x3 main_cst_4
  let main_v19 : IVec S512x512x3 1 := cmpf .olt main_v17 main_v18
  let main_v20 : FVec F S512 .f32 := Host.absf main_arg7
  let main_cst_5 : FVec F S_ .f32 := constant S_ .f32 0x7F800000#32
  let main_v21 : FVec F S512 .f32 := broadcastInDim S512 ![] bcast_S_S512 main_cst_5
  let main_v22 : IVec S512 1 := cmpf .olt main_v20 main_v21
  let main_v23 : FVec F S512 .f32 := Host.absf main_arg8
  let main_cst_6 : FVec F S_ .f32 := constant S_ .f32 0x7F800000#32
  let main_v24 : FVec F S512 .f32 := broadcastInDim S512 ![] bcast_S_S512 main_cst_6
  let main_v25 : IVec S512 1 := cmpf .olt main_v23 main_v24
  let main_v26 : FVec F S512 .f32 := Host.absf main_arg9
  let main_cst_7 : FVec F S_ .f32 := constant S_ .f32 0x7F800000#32
  let main_v27 : FVec F S512 .f32 := broadcastInDim S512 ![] bcast_S_S512 main_cst_7
  let main_v28 : IVec S512 1 := cmpf .olt main_v26 main_v27
  let main_v29 : FVec F S1x512x1 .f32 := Host.absf main_arg10
  let main_cst_8 : FVec F S_ .f32 := constant S_ .f32 0x7F800000#32
  let main_v30 : FVec F S1x512x1 .f32 := broadcastInDim S1x512x1 ![] bcast_S_S1x512x1 main_cst_8
  let main_v31 : IVec S1x512x1 1 := cmpf .olt main_v29 main_v30
  let main_v32 : FVec F S512x512x3 .f32 := Host.absf main_arg12
  let main_cst_9 : FVec F S_ .f32 := constant S_ .f32 0x7F800000#32
  let main_v33 : FVec F S512x512x3 .f32 := broadcastInDim S512x512x3 ![] bcast_S_S512x512x3 main_cst_9
  let main_v34 : IVec S512x512x3 1 := cmpf .olt main_v32 main_v33
  let main_v35 : FVec F S512 .f32 := Host.absf main_arg13
  fn_part2 (F := F) main_arg14 main_arg15 main_arg16 main_v1 main_v4 main_v7 main_v10 main_v13 main_v16 main_v19 main_v22 main_v25 main_v28 main_v31 main_v34 main_v35

def fn {F : FTy → Type} [FloatOps F] (main_arg0 : FVec F S16x512x512 .f32) (main_arg1 : IVec S16x512 32) (main_arg2 : FVec F S512x512x3 .f32) (main_arg3 : FVec F S512 .f32) (main_arg4 : FVec F S512 .f32) (main_arg5 : FVec F S512 .f32) (main_arg6 : FVec F S512x512x3 .f32) (main_arg7 : FVec F S512 .f32) (main_arg8 : FVec F S512 .f32) (main_arg9 : FVec F S512 .f32) (main_arg10 : FVec F S1x512x1 .f32) (main_arg11 : FVec F S1 .f32) (main_arg12 : FVec F S512x512x3 .f32) (main_arg13 : FVec F S512 .f32) (main_arg14 : FVec F S512 .f32) (main_arg15 : FVec F S512 .f32) (main_arg16 : FVec F S1x512x1 .f32) (main_arg17 : FVec F S1 .f32) : IVec S16x512 1 × IVec S16x512x512 1 × IVec S512x512x3 1 × IVec S512 1 × IVec S512 1 × IVec S512 1 × IVec S512x512x3 1 × IVec S512 1 × IVec S512 1 × IVec S512 1 × IVec S1x512x1 1 × IVec S512x512x3 1 × IVec S512 1 × IVec S512 1 × IVec S512 1 × IVec S1x512x1 1 :=
  let main_c : IVec S_ 32 := constantI S_ 32 1#32
  let main_v0 : IVec S16x512 32 := broadcastInDim S16x512 ![] bcast_S_S16x512 main_c
  let main_v1 : IVec S16x512 1 := cmpi .eq main_arg1 main_v0
  let main_v2 : FVec F S16x512x512 .f32 := Host.absf main_arg0
  let main_cst : FVec F S_ .f32 := constant S_ .f32 0x7F800000#32
  let main_v3 : FVec F S16x512x512 .f32 := broadcastInDim S16x512x512 ![] bcast_S_S16x512x512 main_cst
  let main_v4 : IVec S16x512x512 1 := cmpf .olt main_v2 main_v3
  let main_v5 : FVec F S512x512x3 .f32 := Host.absf main_arg2
  let main_cst_0 : FVec F S_ .f32 := constant S_ .f32 0x7F800000#32
  let main_v6 : FVec F S512x512x3 .f32 := broadcastInDim S512x512x3 ![] bcast_S_S512x512x3 main_cst_0
  let main_v7 : IVec S512x512x3 1 := cmpf .olt main_v5 main_v6
  let main_v8 : FVec F S512 .f32 := Host.absf main_arg3
  let main_cst_1 : FVec F S_ .f32 := constant S_ .f32 0x7F800000#32
  let main_v9 : FVec F S512 .f32 := broadcastInDim S512 ![] bcast_S_S512 main_cst_1
  let main_v10 : IVec S512 1 := cmpf .olt main_v8 main_v9
  let main_v11 : FVec F S512 .f32 := Host.absf main_arg4
  let main_cst_2 : FVec F S_ .f32 := constant S_ .f32 0x7F800000#32
  let main_v12 : FVec F S512 .f32 := broadcastInDim S512 ![] bcast_S_S512 main_cst_2
  let main_v13 : IVec S512 1 := cmpf .olt main_v11 main_v12
  let main_v14 : FVec F S512 .f32 := Host.absf main_arg5
  let main_cst_3 : FVec F S_ .f32 := constant S_ .f32 0x7F800000#32
  let main_v15 : FVec F S512 .f32 := broadcastInDim S512 ![] bcast_S_S512 main_cst_3
  let main_v16 : IVec S512 1 := cmpf .olt main_v14 main_v15
  let main_v17 : FVec F S512x512x3 .f32 := Host.absf main_arg6
  fn_part1 (F := F) main_arg7 main_arg8 main_arg9 main_arg10 main_arg12 main_arg13 main_arg14 main_arg15 main_arg16 main_v1 main_v4 main_v7 main_v10 main_v13 main_v16 main_v17
-- ==== Kernel.lean ====
abbrev S16x512x512 : Shape := ⟨3, ![16, 512, 512]⟩
abbrev S16x512 : Shape := ⟨2, ![16, 512]⟩
abbrev S512x512x3 : Shape := ⟨3, ![512, 512, 3]⟩
abbrev S512 : Shape := ⟨1, ![512]⟩
abbrev S1x512x1 : Shape := ⟨3, ![1, 512, 1]⟩
abbrev S1 : Shape := ⟨1, ![1]⟩
abbrev S3x512x512 : Shape := ⟨3, ![3, 512, 512]⟩
abbrev S9x512x512 : Shape := ⟨3, ![9, 512, 512]⟩
abbrev S512x1 : Shape := ⟨2, ![512, 1]⟩
abbrev S512x6 : Shape := ⟨2, ![512, 6]⟩
abbrev S1x512 : Shape := ⟨2, ![1, 512]⟩
abbrev S16x512x1 : Shape := ⟨3, ![16, 512, 1]⟩
abbrev S2x512x512 : Shape := ⟨3, ![2, 512, 512]⟩
abbrev S2x512x1 : Shape := ⟨3, ![2, 512, 1]⟩
abbrev S1x512x512 : Shape := ⟨3, ![1, 512, 512]⟩
abbrev S512x512 : Shape := ⟨2, ![512, 512]⟩
abbrev S511x512 : Shape := ⟨2, ![511, 512]⟩
abbrev S1x1 : Shape := ⟨2, ![1, 1]⟩

abbrev nBuf : Space → Nat
  | .hbm => 35
  | .vmem => 15
  | .smem => 2
  | _ => 0

abbrev bufTy : (tb : Table) → Fin (tcTables nBuf tb) → BufTy
  | .hbm, ⟨0, _⟩ => ⟨S16x512x512, .f32⟩
  | .hbm, ⟨1, _⟩ => ⟨S16x512, .i32⟩
  | .hbm, ⟨2, _⟩ => ⟨S512x512x3, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512x512x3, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S1x512x1, .f32⟩
  | .hbm, ⟨11, _⟩ => ⟨S1, .f32⟩
  | .hbm, ⟨12, _⟩ => ⟨S512x512x3, .f32⟩
  | .hbm, ⟨13, _⟩ => ⟨S512, .f32⟩
  | .hbm, ⟨14, _⟩ => ⟨S512, .f32⟩
  | .hbm, ⟨15, _⟩ => ⟨S512, .f32⟩
  | .hbm, ⟨16, _⟩ => ⟨S1x512x1, .f32⟩
  | .hbm, ⟨17, _⟩ => ⟨S1, .f32⟩
  | .hbm, ⟨18, _⟩ => ⟨S3x512x512, .f32⟩
  | .hbm, ⟨19, _⟩ => ⟨S3x512x512, .f32⟩
  | .hbm, ⟨20, _⟩ => ⟨S3x512x512, .f32⟩
  | .hbm, ⟨21, _⟩ => ⟨S9x512x512, .f32⟩
  | .hbm, ⟨22, _⟩ => ⟨S9x512x512, .bf16⟩
  | .hbm, ⟨23, _⟩ => ⟨S512x1, .f32⟩
  | .hbm, ⟨24, _⟩ => ⟨S512x1, .f32⟩
  | .hbm, ⟨25, _⟩ => ⟨S512x1, .f32⟩
  | .hbm, ⟨26, _⟩ => ⟨S512x1, .f32⟩
  | .hbm, ⟨27, _⟩ => ⟨S512x1, .f32⟩
  | .hbm, ⟨28, _⟩ => ⟨S512x1, .f32⟩
  | .hbm, ⟨29, _⟩ => ⟨S512x6, .f32⟩
  | .hbm, ⟨30, _⟩ => ⟨S1x512, .f32⟩
  | .hbm, ⟨31, _⟩ => ⟨S1x512, .f32⟩
  | .hbm, ⟨32, _⟩ => ⟨S16x512x1, .f32⟩
  | .hbm, ⟨33, _⟩ => ⟨S16x512x1, .f32⟩
  | .hbm, ⟨34, _⟩ => ⟨S16x512x512, .f32⟩
  | .local _ .vmem, ⟨0, _⟩ => ⟨S2x512x512, .f32⟩
  | .local _ .vmem, ⟨1, _⟩ => ⟨S2x512x512, .f32⟩
  | .local _ .vmem, ⟨2, _⟩ => ⟨S9x512x512, .bf16⟩
  | .local _ .vmem, ⟨3, _⟩ => ⟨S512x6, .f32⟩
  | .local _ .vmem, ⟨4, _⟩ => ⟨S512, .f32⟩
  | .local _ .vmem, ⟨5, _⟩ => ⟨S512, .f32⟩
  | .local _ .vmem, ⟨6, _⟩ => ⟨S512, .f32⟩
  | .local _ .vmem, ⟨7, _⟩ => ⟨S1x512, .f32⟩
  | .local _ .vmem, ⟨8, _⟩ => ⟨S1x512, .f32⟩
  | .local _ .vmem, ⟨9, _⟩ => ⟨S2x512x1, .f32⟩
  | .local _ .vmem, ⟨10, _⟩ => ⟨S2x512x1, .f32⟩
  | .local _ .vmem, ⟨11, _⟩ => ⟨S2x512x1, .f32⟩
  | .local _ .vmem, ⟨12, _⟩ => ⟨S2x512x1, .f32⟩
  | .local _ .vmem, ⟨13, _⟩ => ⟨S2x512x512, .f32⟩
  | .local _ .vmem, ⟨14, _⟩ => ⟨S2x512x512, .f32⟩
  | .local _ .smem, ⟨0, _⟩ => ⟨S1, .f32⟩
  | .local _ .smem, ⟨1, _⟩ => ⟨S1, .f32⟩
  | _, _ => ⟨S16x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_v0_1 : Ref sig .tc := ⟨.hbm, 32, rfl⟩
abbrev main_v0_2 : Ref sig .tc := ⟨.hbm, 33, rfl⟩
abbrev main_v0_0 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg10_0 : Ref sig .tc := ⟨.vmem, 9, rfl⟩
abbrev cc0_stg10_1 : Ref sig .tc := ⟨.vmem, 10, rfl⟩
abbrev cc0_stg11_0 : Ref sig .tc := ⟨.vmem, 11, rfl⟩
abbrev cc0_stg11_1 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg8_0 : Ref sig .tc := ⟨.smem, 0, rfl⟩
abbrev cc0_stg9_0 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x6 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .smem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .smem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2x512x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x512x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S16x512x512 : Shape := ⟨3, ![16, 512, 512]⟩
abbrev S16x512 : Shape := ⟨2, ![16, 512]⟩
abbrev S512x512x3 : Shape := ⟨3, ![512, 512, 3]⟩
abbrev S512 : Shape := ⟨1, ![512]⟩
abbrev S1x512x1 : Shape := ⟨3, ![1, 512, 1]⟩
abbrev S1 : Shape := ⟨1, ![1]⟩
abbrev S_ : Shape := ⟨0, ![]⟩
abbrev S16x512x514 : Shape := ⟨3, ![16, 512, 514]⟩
abbrev S512x512x1 : Shape := ⟨3, ![512, 512, 1]⟩
abbrev S512x512 : Shape := ⟨2, ![512, 512]⟩
abbrev S16x512x1 : Shape := ⟨3, ![16, 512, 1]⟩
abbrev S1x1x512 : Shape := ⟨3, ![1, 1, 512]⟩
abbrev S1x512 : Shape := ⟨2, ![1, 512]⟩
abbrev S16x1x512 : Shape := ⟨3, ![16, 1, 512]⟩
abbrev S1x1x1 : Shape := ⟨3, ![1, 1, 1]⟩
abbrev S16 : Shape := ⟨1, ![16]⟩
abbrev S16x1 : Shape := ⟨2, ![16, 1]⟩
abbrev S16x512x2 : Shape := ⟨3, ![16, 512, 2]⟩

abbrev nBuf : Space → Nat
  | .hbm => 239
  | .vmem => 0
  | .smem => 0
  | _ => 0

abbrev hbmTy0_0 (i : Nat) : BufTy := match i % 128 with
  | 0 => ⟨S16x512x512, .f32⟩
  | 1 => ⟨S16x512, .i32⟩
  | 2 => ⟨S512x512x3, .f32⟩
  | 3 => ⟨S512, .f32⟩
  | 4 => ⟨S512, .f32⟩
  | 5 => ⟨S512, .f32⟩
  | 6 => ⟨S512x512x3, .f32⟩
  | 7 => ⟨S512, .f32⟩
  | 8 => ⟨S512, .f32⟩
  | 9 => ⟨S512, .f32⟩
  | 10 => ⟨S1x512x1, .f32⟩
  | 11 => ⟨S1, .f32⟩
  | 12 => ⟨S512x512x3, .f32⟩
  | 13 => ⟨S512, .f32⟩
  | 14 => ⟨S512, .f32⟩
  | 15 => ⟨S512, .f32⟩
  | 16 => ⟨S1x512x1, .f32⟩
  | 17 => ⟨S1, .f32⟩
  | 18 => ⟨S16x512x512, .f32⟩
  | 19 => ⟨S_, .i32⟩
  | 20 => ⟨S_, .f32⟩
  | 21 => ⟨S16x512x514, .f32⟩
  | 22 => ⟨S512x512x1, .f32⟩
  | 23 => ⟨S512x512, .f32⟩
  | 24 => ⟨S16x512x512, .f32⟩
  | 25 => ⟨S16x512x512, .f32⟩
  | 26 => ⟨S16x512x512, .f32⟩
  | 27 => ⟨S512x512x1, .f32⟩
  | 28 => ⟨S512x512, .f32⟩
  | 29 => ⟨S16x512x512, .f32⟩
  | 30 => ⟨S16x512x512, .f32⟩
  | 31 => ⟨S16x512x512, .f32⟩
  | 32 => ⟨S512x512x1, .f32⟩
  | 33 => ⟨S512x512, .f32⟩
  | 34 => ⟨S16x512x512, .f32⟩
  | 35 => ⟨S16x512x512, .f32⟩
  | 36 => ⟨S16x512x512, .f32⟩
  | 37 => ⟨S16x512x512, .f32⟩
  | 38 => ⟨S16x512x512, .f32⟩
  | 39 => ⟨S1x512x1, .f32⟩
  | 40 => ⟨S16x512x512, .f32⟩
  | 41 => ⟨S16x512x512, .f32⟩
  | 42 => ⟨S_, .f32⟩
  | 43 => ⟨S16x512x512, .f32⟩
  | 44 => ⟨S16x512x512, .f32⟩
  | 45 => ⟨S_, .f32⟩
  | 46 => ⟨S16x512, .f32⟩
  | 47 => ⟨S16x512x1, .f32⟩
  | 48 => ⟨S_, .f32⟩
  | 49 => ⟨S16x512x1, .f32⟩
  | 50 => ⟨S16x512x1, .f32⟩
  | 51 => ⟨S16x512x512, .f32⟩
  | 52 => ⟨S16x512x512, .f32⟩
  | 53 => ⟨S16x512x512, .f32⟩
  | 54 => ⟨S_, .f32⟩
  | 55 => ⟨S16x512, .f32⟩
  | 56 => ⟨S16x512x1, .f32⟩
  | 57 => ⟨S_, .f32⟩
  | 58 => ⟨S16x512x1, .f32⟩
  | 59 => ⟨S16x512x1, .f32⟩
  | 60 => ⟨S16x512x512, .f32⟩
  | 61 => ⟨S16x512x512, .f32⟩
  | 62 => ⟨S_, .f32⟩
  | 63 => ⟨S16x512x1, .f32⟩
  | 64 => ⟨S16x512x1, .f32⟩
  | 65 => ⟨S16x512x1, .f32⟩
  | 66 => ⟨S16x512x512, .f32⟩
  | 67 => ⟨S16x512x512, .f32⟩
  | 68 => ⟨S1x1x512, .f32⟩
  | 69 => ⟨S16x512x512, .f32⟩
  | 70 => ⟨S16x512x512, .f32⟩
  | 71 => ⟨S1x1x512, .f32⟩
  | 72 => ⟨S16x512x512, .f32⟩
  | 73 => ⟨S16x512x512, .f32⟩
  | 74 => ⟨S_, .i32⟩
  | 75 => ⟨S_, .f32⟩
  | 76 => ⟨S16x512x514, .f32⟩
  | 77 => ⟨S512x512x1, .f32⟩
  | 78 => ⟨S512x512, .f32⟩
  | 79 => ⟨S16x512x512, .f32⟩
  | 80 => ⟨S16x512x512, .f32⟩
  | 81 => ⟨S16x512x512, .f32⟩
  | 82 => ⟨S512x512x1, .f32⟩
  | 83 => ⟨S512x512, .f32⟩
  | 84 => ⟨S16x512x512, .f32⟩
  | 85 => ⟨S16x512x512, .f32⟩
  | 86 => ⟨S16x512x512, .f32⟩
  | 87 => ⟨S512x512x1, .f32⟩
  | 88 => ⟨S512x512, .f32⟩
  | 89 => ⟨S16x512x512, .f32⟩
  | 90 => ⟨S16x512x512, .f32⟩
  | 91 => ⟨S16x512x512, .f32⟩
  | 92 => ⟨S16x512x512, .f32⟩
  | 93 => ⟨S16x512x512, .f32⟩
  | 94 => ⟨S1x512x1, .f32⟩
  | 95 => ⟨S16x512x512, .f32⟩
  | 96 => ⟨S16x512x512, .f32⟩
  | 97 => ⟨S_, .f32⟩
  | 98 => ⟨S16x512x512, .f32⟩
  | 99 => ⟨S16x512x512, .f32⟩
  | 100 => ⟨S_, .f32⟩
  | 101 => ⟨S16x512, .f32⟩
  | 102 => ⟨S16x512x1, .f32⟩
  | 103 => ⟨S_, .f32⟩
  | 104 => ⟨S16x512x1, .f32⟩
  | 105 => ⟨S16x512x1, .f32⟩
  | 106 => ⟨S16x512x512, .f32⟩
  | 107 => ⟨S16x512x512, .f32⟩
  | 108 => ⟨S16x512x512, .f32⟩
  | 109 => ⟨S_, .f32⟩
  | 110 => ⟨S16x512, .f32⟩
  | 111 => ⟨S16x512x1, .f32⟩
  | 112 => ⟨S_, .f32⟩
  | 113 => ⟨S16x512x1, .f32⟩
  | 114 => ⟨S16x512x1, .f32⟩
  | 115 => ⟨S16x512x512, .f32⟩
  | 116 => ⟨S16x512x512, .f32⟩
  | 117 => ⟨S_, .f32⟩
  | 118 => ⟨S16x512x1, .f32⟩
  | 119 => ⟨S16x512x1, .f32⟩
  | 120 => ⟨S16x512x1, .f32⟩
  | 121 => ⟨S16x512x512, .f32⟩
  | 122 => ⟨S16x512x512, .f32⟩
  | 123 => ⟨S1x1x512, .f32⟩
  | 124 => ⟨S16x512x512, .f32⟩
  | 125 => ⟨S16x512x512, .f32⟩
  | 126 => ⟨S1x1x512, .f32⟩
  | 127 => ⟨S16x512x512, .f32⟩
  | _ => ⟨S16x512x512, .f32⟩

abbrev hbmTy0_1 (i : Nat) : BufTy := match i % 128 with
  | 0 => ⟨S16x512x512, .f32⟩
  | 1 => ⟨S1x512, .f32⟩
  | 2 => ⟨S16x512x1, .f32⟩
  | 3 => ⟨S16x1x512, .f32⟩
  | 4 => ⟨S1x1x1, .f32⟩
  | 5 => ⟨S16x1x512, .f32⟩
  | 6 => ⟨S16x1x512, .f32⟩
  | 7 => ⟨S16x512x1, .f32⟩
  | 8 => ⟨S16x512x1, .f32⟩
  | 9 => ⟨S_, .f32⟩
  | 10 => ⟨S16x512x1, .f32⟩
  | 11 => ⟨S16x512x1, .f32⟩
  | 12 => ⟨S_, .i32⟩
  | 13 => ⟨S_, .i32⟩
  | 14 => ⟨S16x512, .i32⟩
  | 15 => ⟨S16x512x1, .i32⟩
  | 16 => ⟨S512, .i32⟩
  | 17 => ⟨S1x1x512, .i32⟩
  | 18 => ⟨S16x512x512, .i32⟩
  | 19 => ⟨S16x512x512, .i32⟩
  | 20 => ⟨S16x512x512, .i1⟩
  | 21 => ⟨S16x512x512, .i32⟩
  | 22 => ⟨S_, .i32⟩
  | 23 => ⟨S16x512, .i32⟩
  | 24 => ⟨S16, .i32⟩
  | 25 => ⟨S16x1, .i32⟩
  | 26 => ⟨S_, .i32⟩
  | 27 => ⟨S16x512, .i32⟩
  | 28 => ⟨S16x512, .i32⟩
  | 29 => ⟨S_, .i32⟩
  | 30 => ⟨S16x1, .i32⟩
  | 31 => ⟨S16x1, .i1⟩
  | 32 => ⟨S_, .i32⟩
  | 33 => ⟨S16x1, .i32⟩
  | 34 => ⟨S16x1, .i32⟩
  | 35 => ⟨S16x1, .i32⟩
  | 36 => ⟨S_, .i32⟩
  | 37 => ⟨S16x512, .i32⟩
  | 38 => ⟨S16x512, .i1⟩
  | 39 => ⟨S_, .i32⟩
  | 40 => ⟨S16x512, .i32⟩
  | 41 => ⟨S16x512, .i32⟩
  | 42 => ⟨S16x512, .i32⟩
  | 43 => ⟨S16x512, .i32⟩
  | 44 => ⟨S16x512x1, .i32⟩
  | 45 => ⟨S16x512x1, .i32⟩
  | 46 => ⟨S16x512x2, .i32⟩
  | 47 => ⟨S16x512x512, .f32⟩
  | 48 => ⟨S16x512x512, .f32⟩
  | 49 => ⟨S_, .i32⟩
  | 50 => ⟨S_, .f32⟩
  | 51 => ⟨S16x512x514, .f32⟩
  | 52 => ⟨S512x512x1, .f32⟩
  | 53 => ⟨S512x512, .f32⟩
  | 54 => ⟨S16x512x512, .f32⟩
  | 55 => ⟨S16x512x512, .f32⟩
  | 56 => ⟨S16x512x512, .f32⟩
  | 57 => ⟨S512x512x1, .f32⟩
  | 58 => ⟨S512x512, .f32⟩
  | 59 => ⟨S16x512x512, .f32⟩
  | 60 => ⟨S16x512x512, .f32⟩
  | 61 => ⟨S16x512x512, .f32⟩
  | 62 => ⟨S512x512x1, .f32⟩
  | 63 => ⟨S512x512, .f32⟩
  | 64 => ⟨S16x512x512, .f32⟩
  | 65 => ⟨S16x512x512, .f32⟩
  | 66 => ⟨S16x512x512, .f32⟩
  | 67 => ⟨S16x512x512, .f32⟩
  | 68 => ⟨S16x512x512, .f32⟩
  | 69 => ⟨S1x512x1, .f32⟩
  | 70 => ⟨S16x512x512, .f32⟩
  | 71 => ⟨S16x512x512, .f32⟩
  | 72 => ⟨S_, .f32⟩
  | 73 => ⟨S16x512x512, .f32⟩
  | 74 => ⟨S16x512x512, .f32⟩
  | 75 => ⟨S_, .f32⟩
  | 76 => ⟨S16x512, .f32⟩
  | 77 => ⟨S16x512x1, .f32⟩
  | 78 => ⟨S_, .f32⟩
  | 79 => ⟨S16x512x1, .f32⟩
  | 80 => ⟨S16x512x1, .f32⟩
  | 81 => ⟨S16x512x512, .f32⟩
  | 82 => ⟨S16x512x512, .f32⟩
  | 83 => ⟨S16x512x512, .f32⟩
  | 84 => ⟨S_, .f32⟩
  | 85 => ⟨S16x512, .f32⟩
  | 86 => ⟨S16x512x1, .f32⟩
  | 87 => ⟨S_, .f32⟩
  | 88 => ⟨S16x512x1, .f32⟩
  | 89 => ⟨S16x512x1, .f32⟩
  | 90 => ⟨S16x512x512, .f32⟩
  | 91 => ⟨S16x512x512, .f32⟩
  | 92 => ⟨S_, .f32⟩
  | 93 => ⟨S16x512x1, .f32⟩
  | 94 => ⟨S16x512x1, .f32⟩
  | 95 => ⟨S16x512x1, .f32⟩
  | 96 => ⟨S16x512x512, .f32⟩
  | 97 => ⟨S16x512x512, .f32⟩
  | 98 => ⟨S1x1x512, .f32⟩
  | 99 => ⟨S16x512x512, .f32⟩
  | 100 => ⟨S16x512x512, .f32⟩
  | 101 => ⟨S1x1x512, .f32⟩
  | 102 => ⟨S16x512x512, .f32⟩
  | 103 => ⟨S16x512x512, .f32⟩
  | 104 => ⟨S1x512, .f32⟩
  | 105 => ⟨S16x512x1, .f32⟩
  | 106 => ⟨S16x1x512, .f32⟩
  | 107 => ⟨S1x1x1, .f32⟩
  | 108 => ⟨S16x1x512, .f32⟩
  | 109 => ⟨S16x1x512, .f32⟩
  | 110 => ⟨S16x512x1, .f32⟩
  | _ => ⟨S16x512x512, .f32⟩

abbrev hbmTy (i : Nat) : BufTy := match i / 128 with
  | 0 => hbmTy0_0 i
  | 1 => hbmTy0_1 i
  | _ => ⟨S16x512x512, .f32⟩

abbrev bufTy : (tb : Table) → Fin (tcTables nBuf tb) → BufTy
  | .hbm, ⟨i, _⟩ => hbmTy i
  | _, _ => ⟨S16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_c : Ref sig .tc := ⟨.hbm, 19, rfl⟩
abbrev main_call0_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_call1_cst : Ref sig .tc := ⟨.hbm, 42, rfl⟩
abbrev main_call1_v0 : Ref sig .tc := ⟨.hbm, 43, rfl⟩
abbrev main_v22 : Ref sig .tc := ⟨.hbm, 44, rfl⟩
abbrev main_cst : Ref sig .tc := ⟨.hbm, 45, rfl⟩
abbrev main_v23 : Ref sig .tc := ⟨.hbm, 46, rfl⟩
abbrev main_v24 : Ref sig .tc := ⟨.hbm, 47, rfl⟩
abbrev main_cst_0 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_1 : Ref sig .tc := ⟨.hbm, 54, rfl⟩
abbrev main_v30 : Ref sig .tc := ⟨.hbm, 55, rfl⟩
abbrev main_v31 : Ref sig .tc := ⟨.hbm, 56, rfl⟩
abbrev main_cst_2 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_3 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_c_4 : Ref sig .tc := ⟨.hbm, 74, rfl⟩
abbrev main_call2_v0 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_call3_cst : Ref sig .tc := ⟨.hbm, 97, rfl⟩
abbrev main_call3_v0 : Ref sig .tc := ⟨.hbm, 98, rfl⟩
abbrev main_v68 : Ref sig .tc := ⟨.hbm, 99, rfl⟩
abbrev main_cst_5 : Ref sig .tc := ⟨.hbm, 100, rfl⟩
abbrev main_v69 : Ref sig .tc := ⟨.hbm, 101, rfl⟩
abbrev main_v70 : Ref sig .tc := ⟨.hbm, 102, rfl⟩
abbrev main_cst_6 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_7 : Ref sig .tc := ⟨.hbm, 109, rfl⟩
abbrev main_v76 : Ref sig .tc := ⟨.hbm, 110, rfl⟩
abbrev main_v77 : Ref sig .tc := ⟨.hbm, 111, rfl⟩
abbrev main_cst_8 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_9 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_cst_10 : Ref sig .tc := ⟨.hbm, 137, rfl⟩
abbrev main_v101 : Ref sig .tc := ⟨.hbm, 138, rfl⟩
abbrev main_v102 : Ref sig .tc := ⟨.hbm, 139, rfl⟩
abbrev main_call4_call0_c : Ref sig .tc := ⟨.hbm, 140, rfl⟩
abbrev main_call4_call0_v0 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_c_11 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_c_12 : Ref sig .tc := ⟨.hbm, 154, rfl⟩
abbrev main_v114 : Ref sig .tc := ⟨.hbm, 155, rfl⟩
abbrev main_v115 : Ref sig .tc := ⟨.hbm, 156, rfl⟩
abbrev main_c_13 : Ref sig .tc := ⟨.hbm, 157, rfl⟩
abbrev main_v116 : Ref sig .tc := ⟨.hbm, 158, rfl⟩
abbrev main_v117 : Ref sig .tc := ⟨.hbm, 159, rfl⟩
abbrev main_c_14 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_c_15 : Ref sig .tc := ⟨.hbm, 164, rfl⟩
abbrev main_v121 : Ref sig .tc := ⟨.hbm, 165, rfl⟩
abbrev main_v122 : Ref sig .tc := ⟨.hbm, 166, rfl⟩
abbrev main_c_16 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_c_17 : Ref sig .tc := ⟨.hbm, 177, rfl⟩
abbrev main_call5_v0 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_call6_cst : Ref sig .tc := ⟨.hbm, 200, rfl⟩
abbrev main_call6_v0 : Ref sig .tc := ⟨.hbm, 201, rfl⟩
abbrev main_v153 : Ref sig .tc := ⟨.hbm, 202, rfl⟩
abbrev main_cst_18 : Ref sig .tc := ⟨.hbm, 203, rfl⟩
abbrev main_v154 : Ref sig .tc := ⟨.hbm, 204, rfl⟩
abbrev main_v155 : Ref sig .tc := ⟨.hbm, 205, rfl⟩
abbrev main_cst_19 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_cst_20 : Ref sig .tc := ⟨.hbm, 212, rfl⟩
abbrev main_v161 : Ref sig .tc := ⟨.hbm, 213, rfl⟩
abbrev main_v162 : Ref sig .tc := ⟨.hbm, 214, rfl⟩
abbrev main_cst_21 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_cst_22 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩

abbrev nD : Nat := 1
abbrev τ : Topo := Topo.v7x

variable {F : FTy → Type} [FloatOps F]
-- ==== Proof.Stages.lean ====
module

public import proofs.«01_k».proof.Proof.Gen.KernelIdeal

@[expose] public section

set_option synthInstance.maxSize 4096

noncomputable section

/-! The stages of the kernel, each named once, so that both batch halves are read through the same definitions. -/
namespace Cert.Stages

open Cert.KernelIdeal Cert.KernelIdeal.Gen Idealize.ShloMosaic

variable {F : FTy → Type} [FloatOps F]

/-- One row of zeros, the padding of the convolution. -/
def zeroRow : FVec F S1x512 .bf16 := broadcast S1x512 (Scalar.ofBits .bf16 0x0000#16)

/-- Each row replaced by the row before it. -/
def before (x : FVec F S512x512 .bf16) : FVec F S512x512 .bf16 :=
  concatenate S512x512 0 [⟨S1x512, zeroRow (F := F)⟩,
    ⟨S511x512, extractStridedSlice S511x512 ![0, 0] x slices_S512x512_o0_0_S511x512⟩] concatenates_S1x512_S511x512_S512x512_d0

/-- Each row replaced by the row after it. -/
def after (x : FVec F S512x512 .bf16) : FVec F S512x512 .bf16 :=
  concatenate S512x512 0 [⟨S511x512, extractStridedSlice S511x512 ![1, 0] x slices_S512x512_o1_0_S511x512⟩,
    ⟨S1x512, zeroRow (F := F)⟩] concatenates_S511x512_S1x512_S512x512_d0

/-- The product of the rows with one tap of the weights. -/
def tap (x : FVec F S512x512 .bf16) (w : Vec F S1x512x512 .bf16) : FVec F S512x512 .f32 :=
  matmul dot_S512x512_S512x512_S512x512_1_0_0_1_n_n none x (shapeCast S512x512 w shapeCasts_S1x512x512_S512x512)
    (constant S512x512 .f32 0x00000000#32)

/-- The convolution with three taps, its bias, and the rectifier. -/
def conv (x : FVec F S512x512 .bf16) (w0 w1 w2 : Vec F S1x512x512 .bf16) (b : Vec F S512 .f32) : FVec F S512x512 .f32 :=
  maximumf
    (addf (addf (addf (tap (before x) w0) (tap x w1)) (tap (after x) w2))
      (broadcastTo S512x512 (shapeCast S1x512 b shapeCasts_S512_S1x512) broadcasts_S1x512_S512x512))
    (broadcast S512x512 (Scalar.ofBits .f32 0x00000000#32))

/-- The mean of each column. -/
def mean (t : FVec F S512x512 .f32) : FVec F S1x512 .f32 :=
  divf (shapeCast S1x512 (multiReduction .add [0] S512 t 0x00000000#32 reduces_S512x512_S512 (.inl rfl) rfl) shapeCasts_S512_S1x512)
    (broadcast S1x512 (Scalar.ofBits .f32 0x44000000#32))

/-- The reciprocal standard deviation of each column. -/
def inv (t : FVec F S512x512 .f32) : FVec F S1x512 .f32 :=
  rsqrt (addf (maximumf (subf (mean (mulf t t)) (mulf (mean t) (mean t))) (broadcast S1x512 (Scalar.ofBits .f32 0x00000000#32)))
    (broadcast S1x512 (Scalar.ofBits .f32 0x3727C5AC#32)))

/-- The normalised columns, scaled and shifted by one number per row. -/
def norm (t : FVec F S512x512 .f32) (lw lb : Vec F S512x1 .f32) : FVec F S512x512 .f32 :=
  addf (mulf (mulf (subf t (broadcastTo S512x512 (mean t) broadcasts_S1x512_S512x512))
      (broadcastTo S512x512 (inv t) broadcasts_S1x512_S512x512))
      (broadcastTo S512x512 (shapeCast S512x1 lw shapeCasts_S512x1_S512x1) broadcasts_S512x1_S512x512))
    (broadcastTo S512x512 (shapeCast S512x1 lb shapeCasts_S512x1_S512x1) broadcasts_S512x1_S512x512)

/-- The sum of a vector of 512 numbers. -/
def total (v : FVec F S512 .f32) : F .f32 :=
  extractAt ![0, 0] (shapeCast S1x1 (multiReduction .add [1] S1 (shapeCast S1x512 v shapeCasts_S512_S1x512) 0x00000000#32
    reduces_S1x512_S1 (.inl rfl) rfl) shapeCasts_S1_S1x1) inpos_S1x1_p0_0

/-- The projection to one channel of the normalised columns, from the unnormalised ones. -/
def head (t : FVec F S512x512 .bf16) (w : Vec F S1x512 .f32) (lw lb : Vec F S512x1 .f32) (b : Elt F .f32) : FVec F S512x1 .f32 :=
  addf (addf (mulf (shapeCast S512x1 lw shapeCasts_S512x1_S512x1)
        (subf (matmul dot_S512x512_S512x1_S512x1_1_0_0_1_n_n none t
            (shapeCast S512x1 (truncf .bf16 (mulf (shapeCast S512 (inv (extf .f32 t bitsLt_bf16_f32)) shapeCasts_S1x512_S512)
              (shapeCast S512 w shapeCasts_S1x512_S512)) bitsLt_bf16_f32) shapeCasts_S512_S512x1)
            (constant S512x1 .f32 0x00000000#32))
          (broadcast S512x1 (total (mulf (mulf (shapeCast S512 (mean (extf .f32 t bitsLt_bf16_f32)) shapeCasts_S1x512_S512)
            (shapeCast S512 (inv (extf .f32 t bitsLt_bf16_f32)) shapeCasts_S1x512_S512)) (shapeCast S512 w shapeCasts_S1x512_S512))))))
      (mulf (shapeCast S512x1 lb shapeCasts_S512x1_S512x1) (broadcast S512x1 (total (shapeCast S512 w shapeCasts_S1x512_S512)))))
    (broadcast S512x1 b)

/-- The rows of one batch element. -/
def rows (x : Vec F S1x512x512 .f32) : FVec F S512x512 .bf16 :=
  truncf .bf16 (shapeCast S512x512 x shapeCasts_S1x512x512_S512x512) bitsLt_bf16_f32

/-- The duration branch: two convolutions, each normalised, the projection, and the clamped exponential. -/
def dur (x : Vec F S1x512x512 .f32) (w0 w1 w2 : Vec F S1x512x512 .bf16) (b : Vec F S512 .f32) (lw lb : Vec F S512x1 .f32)
    (u0 u1 u2 : Vec F S1x512x512 .bf16) (b' : Vec F S512 .f32) (w : Vec F S1x512 .f32) (lw' lb' : Vec F S512x1 .f32)
    (b3 : Elt F .f32) : FVec F S1x512x1 .f32 :=
  shapeCast S1x512x1 (maximumf (exp (head (truncf .bf16 (conv (truncf .bf16 (norm (conv (rows x) w0 w1 w2 b) lw lb) bitsLt_bf16_f32)
      u0 u1 u2 b') bitsLt_bf16_f32) w lw' lb' b3))
    (broadcast S512x1 (Scalar.ofBits .f32 0x3F800000#32))) shapeCasts_S512x1_S1x512x1

/-- The pitch branch: one convolution, normalised, and the projection. -/
def pitch (x : Vec F S1x512x512 .f32) (w0 w1 w2 : Vec F S1x512x512 .bf16) (b : Vec F S512 .f32) (w : Vec F S1x512 .f32)
    (lw lb : Vec F S512x1 .f32) (b2 : Elt F .f32) : FVec F S1x512x1 .f32 :=
  shapeCast S1x512x1 (head (truncf .bf16 (conv (rows x) w0 w1 w2 b) bitsLt_bf16_f32) w lw lb b2) shapeCasts_S512x1_S1x512x1

end Cert.Stages

end
-- ==== Proof.Halves.lean ====
module
public import proofs.«01_k».proof.Proof.Stages
public import proofs.«01_k».proof.Proof.Gen.KernelIdeal.Skeleton

@[expose] public section

set_option maxRecDepth 16384
set_option synthInstance.maxSize 4096

noncomputable section

/-! The payloads of the two batch halves are the same stages: one lemma per stage and half. -/
namespace Cert.Halves

open Cert.KernelIdeal Cert.KernelIdeal.Gen Idealize.ShloMosaic Cert

variable {F : FTy → Type} [FloatOps F]

theorem pitchConv0 (x : Vec F S1x512x512 .f32) (w0 w1 w2 : Vec F S1x512x512 .bf16) (b : Vec F S512 .f32) :
    k0_pay8 (k0_pay5 x) (k0_pay7 x w0 w1) w2 b = truncf .bf16 (Stages.conv (Stages.rows x) w0 w1 w2 b) bitsLt_bf16_f32 := rfl

theorem pitchConv1 (x : Vec F S1x512x512 .f32) (w0 w1 w2 : Vec F S1x512x512 .bf16) (b : Vec F S512 .f32) :
    k0_pay31 (k0_pay24 x) (k0_pay26 x) (k0_pay27 x) w0 w1 w2 b
      = truncf .bf16 (Stages.conv (Stages.rows x) w0 w1 w2 b) bitsLt_bf16_f32 := rfl

theorem mean0 (t : FVec F S512x512 .bf16) : k0_pay18 t = Stages.mean (extf .f32 t bitsLt_bf16_f32) := rfl

theorem inv0 (t : FVec F S512x512 .bf16) : k0_pay19 t = Stages.inv (extf .f32 t bitsLt_bf16_f32) := rfl

theorem mean1 (t : FVec F S512x512 .bf16) : k0_pay40 t = Stages.mean (extf .f32 t bitsLt_bf16_f32) := rfl

theorem inv1 (t : FVec F S512x512 .bf16) : k0_pay41 t = Stages.inv (extf .f32 t bitsLt_bf16_f32) := rfl

theorem pitchHead0 (t : FVec F S512x512 .bf16) (w : Vec F S1x512 .f32) (lw lb : Vec F S512x1 .f32) (b : Elt F .f32) :
    k0_pay23 (k0_pay20 t w) (k0_pay21 t w) (k0_pay22 w) lw lb b
      = shapeCast S1x512x1 (Stages.head t w lw lb b) shapeCasts_S512x1_S1x512x1 := by
  unfold k0_pay23 k0_pay20 k0_pay21 k0_pay22
  rw [mean0, inv0]
  rfl

theorem pitchHead1 (t : FVec F S512x512 .bf16) (w : Vec F S1x512 .f32) (lw lb : Vec F S512x1 .f32) (b : Elt F .f32) :
    k0_pay1 (k0_pay42 t w) (k0_pay43 t) w w lw lb b
      = shapeCast S1x512x1 (Stages.head t w lw lb b) shapeCasts_S512x1_S1x512x1 := by
  unfold k0_pay1 k0_pay42 k0_pay43
  rw [mean1, inv1]
  rfl

theorem durConv0 (x : Vec F S1x512x512 .f32) (w0 w1 w2 : Vec F S1x512x512 .bf16) (b : Vec F S512 .f32)
    (lw lb : Vec F S512x1 .f32) (u0 u1 u2 : Vec F S1x512x512 .bf16) (b' : Vec F S512 .f32) :
    k0_pay10 (k0_pay9 (k0_pay6 x w0 w1 w2) b lw) lb u0 u1 u2 b'
      = truncf .bf16 (Stages.conv (truncf .bf16 (Stages.norm (Stages.conv (Stages.rows x) w0 w1 w2 b) lw lb) bitsLt_bf16_f32)
          u0 u1 u2 b') bitsLt_bf16_f32 := rfl

theorem conv1 (x : Vec F S1x512x512 .f32) (w0 w1 w2 : Vec F S1x512x512 .bf16) (b : Vec F S512 .f32) :
    k0_pay30 (k0_pay28 x w0 w1) (k0_pay29 x w2) b = Stages.conv (Stages.rows x) w0 w1 w2 b := rfl

theorem durMean1 (v v' : FVec F S512x512 .f32) (b : Vec F S512 .f32) : k0_pay32 v v' b = Stages.mean (k0_pay30 v v' b) := rfl

/-- The second half's normalisation and second convolution, over what its first convolution left. -/
theorem durConv1' (v v' : FVec F S512x512 .f32) (b : Vec F S512 .f32)
    (lw lb : Vec F S512x1 .f32) (u0 u1 u2 : Vec F S1x512x512 .bf16) (b' : Vec F S512 .f32) :
    k0_pay34 (k0_pay30 v v' b) (k0_pay32 v v' b) (k0_pay33 v v' b) (FloatOps.ofBits .f32 0x3727C5AC#32) lw lb u0 u1 u2 b'
      = truncf .bf16 (Stages.conv (truncf .bf16 (Stages.norm (k0_pay30 v v' b) lw lb) bitsLt_bf16_f32)
          u0 u1 u2 b') bitsLt_bf16_f32 := rfl

theorem durConv1 (x : Vec F S1x512x512 .f32) (w0 w1 w2 : Vec F S1x512x512 .bf16) (b : Vec F S512 .f32)
    (lw lb : Vec F S512x1 .f32) (u0 u1 u2 : Vec F S1x512x512 .bf16) (b' : Vec F S512 .f32) :
    k0_pay34 (k0_pay30 (k0_pay28 x w0 w1) (k0_pay29 x w2) b) (k0_pay32 (k0_pay28 x w0 w1) (k0_pay29 x w2) b)
        (k0_pay33 (k0_pay28 x w0 w1) (k0_pay29 x w2) b) (FloatOps.ofBits .f32 0x3727C5AC#32) lw lb u0 u1 u2 b'
      = truncf .bf16 (Stages.conv (truncf .bf16 (Stages.norm (Stages.conv (Stages.rows x) w0 w1 w2 b) lw lb) bitsLt_bf16_f32)
          u0 u1 u2 b') bitsLt_bf16_f32 := by
  rw [durConv1', conv1]

/-- The clamped exponential of the projection. -/
def clamp (v : FVec F S512x1 .f32) : FVec F S1x512x1 .f32 :=
  shapeCast S1x512x1 (maximumf (exp v) (broadcast S512x1 (Scalar.ofBits .f32 0x3F800000#32))) shapeCasts_S512x1_S1x512x1

theorem durHead0 (h : FVec F S512x512 .f32) (lb : Vec F S512x1 .f32) (u0 u1 u2 : Vec F S1x512x512 .bf16) (b' : Vec F S512 .f32)
    (w : Vec F S1x512 .f32) (lw' lb' : Vec F S512x1 .f32) (b3 : Elt F .f32) :
    k0_pay16 (k0_pay15 (k0_pay10 h lb u0 u1 u2 b') (k0_pay12 h lb u0 u1 u2 b') (k0_pay13 h lb u0 u1 u2 b') k0_pay14 w w w lw' lb' b3)
      = clamp (Stages.head (k0_pay10 h lb u0 u1 u2 b') w lw' lb' b3) := by
  unfold k0_pay13 k0_pay12 k0_pay11
  generalize k0_pay10 h lb u0 u1 u2 b' = t
  rfl

theorem durHead1 (v : FVec F S512x512 .f32) (y z : FVec F S1x512 .f32) (e : F .f32) (lw lb : Vec F S512x1 .f32)
    (u0 u1 u2 : Vec F S1x512x512 .bf16) (b' : Vec F S512 .f32)
    (w : Vec F S1x512 .f32) (lw' lb' : Vec F S512x1 .f32) (b3 : Elt F .f32) :
    k0_pay38 (k0_pay36 w) (k0_pay37 (k0_pay34 v y z e lw lb u0 u1 u2 b') (k0_pay35 v y z e lw lb u0 u1 u2 b') w w lw') lb' b3
      = clamp (Stages.head (k0_pay34 v y z e lw lb u0 u1 u2 b') w lw' lb' b3) := by
  unfold k0_pay35
  generalize k0_pay34 v y z e lw lb u0 u1 u2 b' = t
  rfl

end Cert.Halves
end
-- ==== Proof.KOut.lean ====
module

public import proofs.«01_k».proof.Proof.Halves
public import proofs.«01_k».proof.Proof.Gen.KernelIdeal.Value
public import Idealize.ShloMosaic.Lib.Pipeline.ValueKit

@[expose] public section

set_option maxRecDepth 16384
set_option synthInstance.maxSize 4096

noncomputable section

/-! What the body leaves in each output's staging buffer, in the vocabulary of the stages: one piece per batch half. -/
namespace Cert.KOut

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The one number of a buffer of one element. -/
def word (x : Vec F S1 .f32) : Elt F .f32 :=
  View.ld x (Rect.unit ![0] ![1] inb_S1_S1_0)
    (Shape.Idx.first (s := (Rect.unit (s := S1) ![0] ![1] inb_S1_S1_0).toLoadRect.shape) (show 0 < S1.numel by rw [numel1_S1]; exact Nat.one_pos))

/-- The duration branch on rows `x`, its weights loaded from the weight blocks. -/
def durOf (x : Vec F S1x512x512 .f32) (x1 : Vec F S9x512x512 .bf16) (x2 : Vec F S512x6 .f32) (x3 x5 : Vec F S512 .f32)
    (x6 : Vec F S1x512 .f32) (x8 : Vec F S1 .f32) : FVec F S1x512x1 .f32 :=
  Stages.dur x
    (View.ld x1 (Rect.unit ![0, 0, 0] ![1, 512, 512] inb_S9x512x512_S1x512x512_0_0_0))
    (View.ld x1 (Rect.unit ![1, 0, 0] ![1, 512, 512] inb_S9x512x512_S1x512x512_1_0_0))
    (View.ld x1 (Rect.unit ![2, 0, 0] ![1, 512, 512] inb_S9x512x512_S1x512x512_2_0_0))
    (View.ld x3 (Rect.unit ![0] ![512] inb_S512_S512_0))
    (View.ld x2 (Rect.unit ![0, 0] ![512, 1] inb_S512x6_S512x1_0_0))
    (View.ld x2 (Rect.unit ![0, 1] ![512, 1] inb_S512x6_S512x1_0_1))
    (View.ld x1 (Rect.unit ![6, 0, 0] ![1, 512, 512] inb_S9x512x512_S1x512x512_6_0_0))
    (View.ld x1 (Rect.unit ![7, 0, 0] ![1, 512, 512] inb_S9x512x512_S1x512x512_7_0_0))
    (View.ld x1 (Rect.unit ![8, 0, 0] ![1, 512, 512] inb_S9x512x512_S1x512x512_8_0_0))
    (View.ld x5 (Rect.unit ![0] ![512] inb_S512_S512_0))
    (View.ld x6 (Rect.unit ![0, 0] ![1, 512] inb_S1x512_S1x512_0_0))
    (View.ld x2 (Rect.unit ![0, 2] ![512, 1] inb_S512x6_S512x1_0_2))
    (View.ld x2 (Rect.unit ![0, 3] ![512, 1] inb_S512x6_S512x1_0_3))
    (word x8)

/-- The pitch branch on rows `x`, its weights loaded from the weight blocks. -/
def pitchOf (x : Vec F S1x512x512 .f32) (x1 : Vec F S9x512x512 .bf16) (x2 : Vec F S512x6 .f32) (x4 : Vec F S512 .f32)
    (x7 : Vec F S1x512 .f32) (x9 : Vec F S1 .f32) : FVec F S1x512x1 .f32 :=
  Stages.pitch x
    (View.ld x1 (Rect.unit ![3, 0, 0] ![1, 512, 512] inb_S9x512x512_S1x512x512_3_0_0))
    (View.ld x1 (Rect.unit ![4, 0, 0] ![1, 512, 512] inb_S9x512x512_S1x512x512_4_0_0))
    (View.ld x1 (Rect.unit ![5, 0, 0] ![1, 512, 512] inb_S9x512x512_S1x512x512_5_0_0))
    (View.ld x4 (Rect.unit ![0] ![512] inb_S512_S512_0))
    (View.ld x7 (Rect.unit ![0, 0] ![1, 512] inb_S1x512_S1x512_0_0))
    (View.ld x2 (Rect.unit ![0, 4] ![512, 1] inb_S512x6_S512x1_0_4))
    (View.ld x2 (Rect.unit ![0, 5] ![512, 1] inb_S512x6_S512x1_0_5))
    (word x9)

/-- The rows of the first batch half. -/
def half0 (x0 : Vec F S2x512x512 .f32) : Vec F S1x512x512 .f32 :=
  View.ld x0 (Rect.unit ![0, 0, 0] ![1, 512, 512] inb_S2x512x512_S1x512x512_0_0_0)

/-- The rows of the second batch half. -/
def half1 (x0 : Vec F S2x512x512 .f32) : Vec F S1x512x512 .f32 :=
  View.ld x0 (Rect.unit ![1, 0, 0] ![1, 512, 512] inb_S2x512x512_S1x512x512_1_0_0)

/-- The block of input 0 at a grid point. -/
def b0 (c : Dev nD) (t : Fin cfg0.N) : Vec F S2x512x512 .f32 := iblk m c 0 t

/-- The block of input 1 at a grid point. -/
def b1 (c : Dev nD) (t : Fin cfg0.N) : Vec F S9x512x512 .bf16 := iblk m c 1 t

/-- The block of input 2 at a grid point. -/
def b2 (c : Dev nD) (t : Fin cfg0.N) : Vec F S512x6 .f32 := iblk m c 2 t

/-- The block of input 3 at a grid point. -/
def b3 (c : Dev nD) (t : Fin cfg0.N) : Vec F S512 .f32 := iblk m c 3 t

/-- The block of input 4 at a grid point. -/
def b4 (c : Dev nD) (t : Fin cfg0.N) : Vec F S512 .f32 := iblk m c 4 t

/-- The block of input 5 at a grid point. -/
def b5 (c : Dev nD) (t : Fin cfg0.N) : Vec F S512 .f32 := iblk m c 5 t

/-- The block of input 6 at a grid point. -/
def b6 (c : Dev nD) (t : Fin cfg0.N) : Vec F S1x512 .f32 := iblk m c 6 t

/-- The block of input 7 at a grid point. -/
def b7 (c : Dev nD) (t : Fin cfg0.N) : Vec F S1x512 .f32 := iblk m c 7 t

/-- The block of input 8 at a grid point. -/
def b8 (c : Dev nD) (t : Fin cfg0.N) : Vec F S1 .f32 := iblk m c 8 t

/-- The block of input 9 at a grid point. -/
def b9 (c : Dev nD) (t : Fin cfg0.N) : Vec F S1 .f32 := iblk m c 9 t

/-- Output 10's buffer as two pieces, one per batch half. -/
def left10 (x0 : Vec F S2x512x512 .f32) (x1 : Vec F S9x512x512 .bf16) (x2 : Vec F S512x6 .f32) (x3 : Vec F S512 .f32) (x5 : Vec F S512 .f32) (x6 : Vec F S1x512 .f32) (x8 : Vec F S1 .f32) : Vec F S2x512x1 .f32 :=
  View.canon [⟨Rect.unit ![1, 0, 0] ![1, 512, 1] inb_S2x512x1_S1x512x1_1_0_0, durOf (half1 x0) x1 x2 x3 x5 x6 x8⟩,
    ⟨Rect.unit ![0, 0, 0] ![1, 512, 1] inb_S2x512x1_S1x512x1_0_0_0, durOf (half0 x0) x1 x2 x3 x5 x6 x8⟩]

set_option maxHeartbeats 2000000 in
/-- Output 10's buffer after the body, over the blocks the body reads. -/
theorem piece10 (c : Dev nD) (i : grid0.Coords) (arg1 : Memref sig .tc .vmem S2x512x512 .f32) (harg1 : arg1.IsWhole) (arg2 : Memref sig .tc .vmem S9x512x512 .bf16) (harg2 : arg2.IsWhole) (arg3 : Memref sig .tc .vmem S512x6 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S1x512 .f32) (harg7 : arg7.IsWhole) (arg8 : Memref sig .tc .vmem S1x512 .f32) (harg8 : arg8.IsWhole) (arg9 : Memref sig .tc .smem S1 .f32) (harg9 : arg9.IsWhole) (arg10 : Memref sig .tc .smem S1 .f32) (harg10 : arg10.IsWhole) (arg11 : Memref sig .tc .vmem S2x512x1 .f32) (harg11 : arg11.IsWhole) (arg12 : Memref sig .tc .vmem S2x512x1 .f32) (harg12 : arg12.IsWhole) (arg13 : Memref sig .tc .vmem S2x512x512 .f32) (harg13 : arg13.IsWhole)
    (x0 : Vec F S2x512x512 .f32) (x1 : Vec F S9x512x512 .bf16) (x2 : Vec F S512x6 .f32) (x3 : Vec F S512 .f32) (x4 : Vec F S512 .f32) (x5 : Vec F S512 .f32) (x6 : Vec F S1x512 .f32) (x7 : Vec F S1x512 .f32) (x8 : Vec F S1 .f32) (x9 : Vec F S1 .f32) :
    out0_A_10 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 = left10 x0 x1 x2 x3 x5 x6 x8 := by
  unfold out0_A_10
  rw [View.read_writes_eq_canon _ _ _ (fun y => cover0_A_10 (y := y) ..)]
  unfold kernelRun0_A left10
  dsimp only
  sl_unfold_words
  simp only [View.readAt_eq_ld, harg1.read_unread, harg2.read_unread, harg3.read_unread, harg4.read_unread, harg5.read_unread, harg6.read_unread, harg7.read_unread, harg8.read_unread, harg9.read_unread, harg10.read_unread]
  rw [Halves.durHead0, Halves.durHead1, Halves.durConv0, Halves.durConv1]
  rfl

/-- Output 11's buffer as two pieces, one per batch half. -/
def left11 (x0 : Vec F S2x512x512 .f32) (x1 : Vec F S9x512x512 .bf16) (x2 : Vec F S512x6 .f32) (x4 : Vec F S512 .f32) (x7 : Vec F S1x512 .f32) (x9 : Vec F S1 .f32) : Vec F S2x512x1 .f32 :=
  View.canon [⟨Rect.unit ![1, 0, 0] ![1, 512, 1] inb_S2x512x1_S1x512x1_1_0_0, pitchOf (half1 x0) x1 x2 x4 x7 x9⟩,
    ⟨Rect.unit ![0, 0, 0] ![1, 512, 1] inb_S2x512x1_S1x512x1_0_0_0, pitchOf (half0 x0) x1 x2 x4 x7 x9⟩]

set_option maxHeartbeats 2000000 in
/-- Output 11's buffer after the body, over the blocks the body reads. -/
theorem piece11 (c : Dev nD) (i : grid0.Coords) (arg1 : Memref sig .tc .vmem S2x512x512 .f32) (harg1 : arg1.IsWhole) (arg2 : Memref sig .tc .vmem S9x512x512 .bf16) (harg2 : arg2.IsWhole) (arg3 : Memref sig .tc .vmem S512x6 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S1x512 .f32) (harg7 : arg7.IsWhole) (arg8 : Memref sig .tc .vmem S1x512 .f32) (harg8 : arg8.IsWhole) (arg9 : Memref sig .tc .smem S1 .f32) (harg9 : arg9.IsWhole) (arg10 : Memref sig .tc .smem S1 .f32) (harg10 : arg10.IsWhole) (arg11 : Memref sig .tc .vmem S2x512x1 .f32) (harg11 : arg11.IsWhole) (arg12 : Memref sig .tc .vmem S2x512x1 .f32) (harg12 : arg12.IsWhole) (arg13 : Memref sig .tc .vmem S2x512x512 .f32) (harg13 : arg13.IsWhole)
    (x0 : Vec F S2x512x512 .f32) (x1 : Vec F S9x512x512 .bf16) (x2 : Vec F S512x6 .f32) (x3 : Vec F S512 .f32) (x4 : Vec F S512 .f32) (x5 : Vec F S512 .f32) (x6 : Vec F S1x512 .f32) (x7 : Vec F S1x512 .f32) (x8 : Vec F S1 .f32) (x9 : Vec F S1 .f32) :
    out0_A_11 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 = left11 x0 x1 x2 x4 x7 x9 := by
  unfold out0_A_11
  rw [View.read_writes_eq_canon _ _ _ (fun y => cover0_A_11 (y := y) ..)]
  unfold kernelRun0_A left11
  dsimp only
  sl_unfold_words
  simp only [View.readAt_eq_ld, harg1.read_unread, harg2.read_unread, harg3.read_unread, harg4.read_unread, harg5.read_unread, harg6.read_unread, harg7.read_unread, harg8.read_unread, harg9.read_unread, harg10.read_unread]
  rw [Halves.pitchConv0, Halves.pitchConv1, Halves.pitchHead0, Halves.pitchHead1]
  rfl

theorem out10 (c : Dev nD) (t : Fin cfg0.N) :
    (outsAt0 m c t).1 = left10 (b0 m c t) (b1 m c t) (b2 m c t) (b3 m c t) (b5 m c t) (b6 m c t) (b8 m c t) := by
  unfold outsAt0
  dsimp only
  rw [piece10]
  rfl

theorem out11 (c : Dev nD) (t : Fin cfg0.N) :
    (outsAt0 m c t).2.1 = left11 (b0 m c t) (b1 m c t) (b2 m c t) (b4 m c t) (b7 m c t) (b9 m c t) := by
  unfold outsAt0
  dsimp only
  rw [piece11]
  rfl

/-- The third output is the input block itself. -/
theorem out12 (c : Dev nD) (t : Fin cfg0.N) : (outsAt0 m c t).2.2 = b0 m c t := by
  unfold outsAt0; dsimp only; unfold out0_A_12
  rw [View.read_writes_eq_canon _ _ _ (fun y => cover0_A_12 (y := y) ..)]
  unfold kernelRun0_A
  dsimp only
  sl_unfold_words
  simp only [View.readAt_eq_ld, (hs0_0 t).read_unread]
  rw [View.canon_unit_zero (by funext a; fin_cases a <;> rfl), View.ld_unit_zero (by funext a; fin_cases a <;> rfl)]
  rfl

end Cert.KOut
end
-- ==== Proof.KHost.lean ====
module

public import proofs.«01_k».proof.Proof.Gen.KernelIdeal.Value
public import Idealize.ShloMosaic.PureOps.Ideal.Laws
public import Idealize.ShloMosaic.Lib.Pointwise

@[expose] public section

set_option maxRecDepth 16384
set_option synthInstance.maxSize 4096

noncomputable section

/-! The arrays the kernel's region finds, after the operations that pack the weights. -/
namespace Cert.KHost

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The nine taps of three convolutions, each with its axes reversed. -/
def packed (a b c : Vec F S512x512x3 .f32) : Vec F S9x512x512 .bf16 :=
  truncf .bf16 (concatenate S9x512x512 0 [⟨S3x512x512, transpose S3x512x512 [2, 1, 0] a transposes_S512x512x3_S3x512x512_2_1_0⟩,
    ⟨S3x512x512, transpose S3x512x512 [2, 1, 0] b transposes_S512x512x3_S3x512x512_2_1_0⟩,
    ⟨S3x512x512, transpose S3x512x512 [2, 1, 0] c transposes_S512x512x3_S3x512x512_2_1_0⟩]
    concatenates_S3x512x512_S3x512x512_S3x512x512_S9x512x512_d0) bitsLt_bf16_f32

/-- Six vectors side by side as columns. -/
def columns (a b c d e f : Vec F S512 .f32) : Vec F S512x6 .f32 :=
  concatenate S512x6 1 [⟨S512x1, broadcastInDim S512x1 ![0] bcast_S512_S512x1_0 a⟩, ⟨S512x1, broadcastInDim S512x1 ![0] bcast_S512_S512x1_0 b⟩,
    ⟨S512x1, broadcastInDim S512x1 ![0] bcast_S512_S512x1_0 c⟩, ⟨S512x1, broadcastInDim S512x1 ![0] bcast_S512_S512x1_0 d⟩,
    ⟨S512x1, broadcastInDim S512x1 ![0] bcast_S512_S512x1_0 e⟩, ⟨S512x1, broadcastInDim S512x1 ![0] bcast_S512_S512x1_0 f⟩]
    concatenates_S512x1_S512x1_S512x1_S512x1_S512x1_S512x1_S512x6_d1

theorem V_taps (c : Dev nD) : V m c main_call0_v4
    = packed (m ((c : Thread nD τ).loc main_arg2)) (m ((c : Thread nD τ).loc main_arg12)) (m ((c : Thread nD τ).loc main_arg6)) := by
  unfold V
  after_results
  rfl

theorem V_cols (c : Dev nD) : V m c main_call0_v11
    = columns (m ((c : Thread nD τ).loc main_arg4)) (m ((c : Thread nD τ).loc main_arg5)) (m ((c : Thread nD τ).loc main_arg8))
        (m ((c : Thread nD τ).loc main_arg9)) (m ((c : Thread nD τ).loc main_arg14)) (m ((c : Thread nD τ).loc main_arg15)) := by
  unfold V
  after_results
  rfl

theorem V_row10 (c : Dev nD) : V m c main_call0_v12
    = shapeCast S1x512 (m ((c : Thread nD τ).loc main_arg10)) shapeCasts_S1x512x1_S1x512 := by
  unfold V
  after_results
  rfl

theorem V_row16 (c : Dev nD) : V m c main_call0_v13
    = shapeCast S1x512 (m ((c : Thread nD τ).loc main_arg16)) shapeCasts_S1x512x1_S1x512 := by
  unfold V
  after_results
  rfl

theorem packed_apply (a b c : Vec Ideal S512x512x3 .f32) (k : Fin 9) (d o : Fin 512) :
    packed a b c (ix3 k d o) = (![fun d o => a (ix3 o d 0), fun d o => a (ix3 o d 1), fun d o => a (ix3 o d 2),
      fun d o => b (ix3 o d 0), fun d o => b (ix3 o d 1), fun d o => b (ix3 o d 2),
      fun d o => c (ix3 o d 0), fun d o => c (ix3 o d 1), fun d o => c (ix3 o d 2)] : Fin 9 → Fin 512 → Fin 512 → EReal) k d o := by
  unfold packed
  pointwise
  fin_cases k <;> rfl

theorem columns_apply (a b c d e f : Vec F S512 .f32) (k : Fin 6) (l : Fin 512) :
    columns a b c d e f (ix2 l k) = (![a, b, c, d, e, f] : Fin 6 → Vec F S512 .f32) k (ix1 l) := by
  unfold columns
  pointwise
  fin_cases k <;> rfl

theorem row_apply (a : Vec F S1x512x1 .f32) (o : Fin 512) :
    shapeCast S1x512 a shapeCasts_S1x512x1_S1x512 (ix2 0 o) = a (ix3 0 o 0) := by
  pointwise

end Cert.KHost

end
-- ==== Proof.KArr.lean ====
module

public import proofs.«01_k».proof.Proof.KOut
public import proofs.«01_k».proof.Proof.KHost

@[expose] public section

set_option maxRecDepth 16384
set_option synthInstance.maxSize 4096

noncomputable section

/-! The blocks of the inputs at a grid point, and the final arrays at one index. -/
namespace Cert.KArr

open Cert.KernelIdeal Cert.KernelIdeal.Gen Cert.KernelIdeal.Value Idealize.ShloMosaic Idealize.ShloMosaic.TcCoe Idealize.SL.Sem
open Cert Cert.KOut

variable {F : FTy → Type} [FloatOps F]
variable (m : (ℓ : Loc nD τ sig) → Buf (Elt F) ℓ)

/-! Each window's block index at a grid point: the batch windows move with the point, the weights stay. -/
theorem idx0 : ∀ t : Fin cfg0.N, win0_0.index t (0 : Fin 3) = t.1 ∧ win0_0.index t (1 : Fin 3) = 0 ∧ win0_0.index t (2 : Fin 3) = 0 :=
  (by decide +kernel : ∀ t : Fin grid0.N, _)
theorem idx10 : ∀ t : Fin cfg0.N, win0_10.index t (0 : Fin 3) = t.1 ∧ win0_10.index t (1 : Fin 3) = 0 ∧ win0_10.index t (2 : Fin 3) = 0 :=
  (by decide +kernel : ∀ t : Fin grid0.N, _)
theorem idx11 : ∀ t : Fin cfg0.N, win0_11.index t (0 : Fin 3) = t.1 ∧ win0_11.index t (1 : Fin 3) = 0 ∧ win0_11.index t (2 : Fin 3) = 0 :=
  (by decide +kernel : ∀ t : Fin grid0.N, _)
theorem idx12 : ∀ t : Fin cfg0.N, win0_12.index t (0 : Fin 3) = t.1 ∧ win0_12.index t (1 : Fin 3) = 0 ∧ win0_12.index t (2 : Fin 3) = 0 :=
  (by decide +kernel : ∀ t : Fin grid0.N, _)
theorem idx1 : ∀ t : Fin cfg0.N, win0_1.index t (0 : Fin 3) = 0 ∧ win0_1.index t (1 : Fin 3) = 0 ∧ win0_1.index t (2 : Fin 3) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 1) = 0 := (by decide +kernel : ∀ t : Fin grid0.N, _)
theorem idx4 : ∀ t : Fin cfg0.N, win0_4.index t (0 : Fin 1) = 0 := (by decide +kernel : ∀ t : Fin grid0.N, _)
theorem idx5 : ∀ t : Fin cfg0.N, win0_5.index t (0 : Fin 1) = 0 := (by decide +kernel : ∀ t : Fin grid0.N, _)
theorem idx6 : ∀ t : Fin cfg0.N, win0_6.index t (0 : Fin 2) = 0 ∧ win0_6.index t (1 : Fin 2) = 0 := (by decide +kernel : ∀ t : Fin grid0.N, _)
theorem idx7 : ∀ t : Fin cfg0.N, win0_7.index t (0 : Fin 2) = 0 ∧ win0_7.index t (1 : Fin 2) = 0 := (by decide +kernel : ∀ t : Fin grid0.N, _)
theorem idx8 : ∀ t : Fin cfg0.N, win0_8.index t (0 : Fin 1) = 0 := (by decide +kernel : ∀ t : Fin grid0.N, _)
theorem idx9 : ∀ t : Fin cfg0.N, win0_9.index t (0 : Fin 1) = 0 := (by decide +kernel : ∀ t : Fin grid0.N, _)

/-! A weight's block is its whole array. -/
theorem b1_eq (c : Dev nD) (t : Fin cfg0.N) : b1 m c t = V m c main_call0_v4 := by
  funext j
  show V m c main_call0_v4 (((cfg0.win 1).blk t).view.emb j) = V m c main_call0_v4 j
  have e : ((cfg0.win 1).blk t).view.emb j = j := by
    obtain ⟨e0, e1, e2⟩ := idx1 t
    funext a; apply Fin.ext
    match a with
    | ⟨0, _⟩ => show win0_1.index t (0 : Fin 3) * 9 + 1 * (j 0).val = (j 0).val; omega
    | ⟨1, _⟩ => show win0_1.index t (1 : Fin 3) * 512 + 1 * (j 1).val = (j 1).val; omega
    | ⟨2, _⟩ => show win0_1.index t (2 : Fin 3) * 512 + 1 * (j 2).val = (j 2).val; omega
  rw [e]

theorem b2_eq (c : Dev nD) (t : Fin cfg0.N) : b2 m c t = V m c main_call0_v11 := by
  funext j
  show V m c main_call0_v11 (((cfg0.win 2).blk t).view.emb j) = V m c main_call0_v11 j
  have e : ((cfg0.win 2).blk t).view.emb j = j := by
    obtain ⟨e0, e1⟩ := idx2 t
    funext a; apply Fin.ext
    match a with
    | ⟨0, _⟩ => show win0_2.index t (0 : Fin 2) * 512 + 1 * (j 0).val = (j 0).val; omega
    | ⟨1, _⟩ => show win0_2.index t (1 : Fin 2) * 6 + 1 * (j 1).val = (j 1).val; omega
  rw [e]

theorem b3_eq (c : Dev nD) (t : Fin cfg0.N) : b3 m c t = V m c main_arg3 := by
  funext j
  show V m c main_arg3 (((cfg0.win 3).blk t).view.emb j) = V m c main_arg3 j
  have e : ((cfg0.win 3).blk t).view.emb j = j := by
    have e0 := idx3 t
    funext a; apply Fin.ext
    match a with
    | ⟨0, _⟩ => show win0_3.index t (0 : Fin 1) * 512 + 1 * (j 0).val = (j 0).val; omega
  rw [e]

theorem b4_eq (c : Dev nD) (t : Fin cfg0.N) : b4 m c t = V m c main_arg13 := by
  funext j
  show V m c main_arg13 (((cfg0.win 4).blk t).view.emb j) = V m c main_arg13 j
  have e : ((cfg0.win 4).blk t).view.emb j = j := by
    have e0 := idx4 t
    funext a; apply Fin.ext
    match a with
    | ⟨0, _⟩ => show win0_4.index t (0 : Fin 1) * 512 + 1 * (j 0).val = (j 0).val; omega
  rw [e]

theorem b5_eq (c : Dev nD) (t : Fin cfg0.N) : b5 m c t = V m c main_arg7 := by
  funext j
  show V m c main_arg7 (((cfg0.win 5).blk t).view.emb j) = V m c main_arg7 j
  have e : ((cfg0.win 5).blk t).view.emb j = j := by
    have e0 := idx5 t
    funext a; apply Fin.ext
    match a with
    | ⟨0, _⟩ => show win0_5.index t (0 : Fin 1) * 512 + 1 * (j 0).val = (j 0).val; omega
  rw [e]

theorem b6_eq (c : Dev nD) (t : Fin cfg0.N) : b6 m c t = V m c main_call0_v12 := by
  funext j
  show V m c main_call0_v12 (((cfg0.win 6).blk t).view.emb j) = V m c main_call0_v12 j
  have e : ((cfg0.win 6).blk t).view.emb j = j := by
    obtain ⟨e0, e1⟩ := idx6 t
    funext a; apply Fin.ext
    match a with
    | ⟨0, _⟩ => show win0_6.index t (0 : Fin 2) * 1 + 1 * (j 0).val = (j 0).val; omega
    | ⟨1, _⟩ => show win0_6.index t (1 : Fin 2) * 512 + 1 * (j 1).val = (j 1).val; omega
  rw [e]

theorem b7_eq (c : Dev nD) (t : Fin cfg0.N) : b7 m c t = V m c main_call0_v13 := by
  funext j
  show V m c main_call0_v13 (((cfg0.win 7).blk t).view.emb j) = V m c main_call0_v13 j
  have e : ((cfg0.win 7).blk t).view.emb j = j := by
    obtain ⟨e0, e1⟩ := idx7 t
    funext a; apply Fin.ext
    match a with
    | ⟨0, _⟩ => show win0_7.index t (0 : Fin 2) * 1 + 1 * (j 0).val = (j 0).val; omega
    | ⟨1, _⟩ => show win0_7.index t (1 : Fin 2) * 512 + 1 * (j 1).val = (j 1).val; omega
  rw [e]

theorem b8_eq (c : Dev nD) (t : Fin cfg0.N) : b8 m c t = V m c main_arg11 := by
  funext j
  show V m c main_arg11 (((cfg0.win 8).blk t).view.emb j) = V m c main_arg11 j
  have e : ((cfg0.win 8).blk t).view.emb j = j := by
    have e0 := idx8 t
    funext a; apply Fin.ext
    match a with
    | ⟨0, _⟩ => show win0_8.index t (0 : Fin 1) * 1 + 1 * (j 0).val = (j 0).val; omega
  rw [e]

theorem b9_eq (c : Dev nD) (t : Fin cfg0.N) : b9 m c t = V m c main_arg17 := by
  funext j
  show V m c main_arg17 (((cfg0.win 9).blk t).view.emb j) = V m c main_arg17 j
  have e : ((cfg0.win 9).blk t).view.emb j = j := by
    have e0 := idx9 t
    funext a; apply Fin.ext
    match a with
    | ⟨0, _⟩ => show win0_9.index t (0 : Fin 1) * 1 + 1 * (j 0).val = (j 0).val; omega
  rw [e]

/-- The grid point that holds a batch element. -/
def point (b : Fin 16) : Fin cfg0.N := ⟨b.1 / 2, (by have := b.isLt; show b.1 / 2 < 8; omega)⟩

/-- Its place in that point's block. -/
def part (b : Fin 16) : Fin 2 := ⟨b.1 % 2, by omega⟩

theorem emb0 (b : Fin 16) (l : Fin 512) (d : Fin 512) :
    ((cfg0.win 0).blk (point b)).view.emb (ix3 (part b) l d : S2x512x512.Idx) = (ix3 b l d : S16x512x512.Idx) := by
  obtain ⟨e0, e1, e2⟩ := idx0 (point b)
  have hp : (point b).1 = b.1 / 2 := rfl
  funext a; apply Fin.ext
  match a with
  | ⟨0, _⟩ => show win0_0.index (point b) (0 : Fin 3) * 2 + 1 * (b.1 % 2) = b.1; omega
  | ⟨1, _⟩ => show win0_0.index (point b) (1 : Fin 3) * 512 + 1 * l.1 = l.1; omega
  | ⟨2, _⟩ => show win0_0.index (point b) (2 : Fin 3) * 512 + 1 * d.1 = d.1; omega

theorem emb12 (b : Fin 16) (l : Fin 512) (d : Fin 512) :
    ((cfg0.win 12).blk (point b)).view.emb (ix3 (part b) l d : S2x512x512.Idx) = (ix3 b l d : S16x512x512.Idx) := by
  obtain ⟨e0, e1, e2⟩ := idx12 (point b)
  have hp : (point b).1 = b.1 / 2 := rfl
  funext a; apply Fin.ext
  match a with
  | ⟨0, _⟩ => show win0_12.index (point b) (0 : Fin 3) * 2 + 1 * (b.1 % 2) = b.1; omega
  | ⟨1, _⟩ => show win0_12.index (point b) (1 : Fin 3) * 512 + 1 * l.1 = l.1; omega
  | ⟨2, _⟩ => show win0_12.index (point b) (2 : Fin 3) * 512 + 1 * d.1 = d.1; omega

theorem emb10 (b : Fin 16) (l : Fin 512) (d : Fin 1) :
    ((cfg0.win 10).blk (point b)).view.emb (ix3 (part b) l d : S2x512x1.Idx) = (ix3 b l d : S16x512x1.Idx) := by
  obtain ⟨e0, e1, e2⟩ := idx10 (point b)
  have hp : (point b).1 = b.1 / 2 := rfl
  funext a; apply Fin.ext
  match a with
  | ⟨0, _⟩ => show win0_10.index (point b) (0 : Fin 3) * 2 + 1 * (b.1 % 2) = b.1; omega
  | ⟨1, _⟩ => show win0_10.index (point b) (1 : Fin 3) * 512 + 1 * l.1 = l.1; omega
  | ⟨2, _⟩ => show win0_10.index (point b) (2 : Fin 3) * 1 + 1 * d.1 = d.1; omega

theorem emb11 (b : Fin 16) (l : Fin 512) (d : Fin 1) :
    ((cfg0.win 11).blk (point b)).view.emb (ix3 (part b) l d : S2x512x1.Idx) = (ix3 b l d : S16x512x1.Idx) := by
  obtain ⟨e0, e1, e2⟩ := idx11 (point b)
  have hp : (point b).1 = b.1 / 2 := rfl
  funext a; apply Fin.ext
  match a with
  | ⟨0, _⟩ => show win0_11.index (point b) (0 : Fin 3) * 2 + 1 * (b.1 % 2) = b.1; omega
  | ⟨1, _⟩ => show win0_11.index (point b) (1 : Fin 3) * 512 + 1 * l.1 = l.1; omega
  | ⟨2, _⟩ => show win0_11.index (point b) (2 : Fin 3) * 1 + 1 * d.1 = d.1; omega

theorem b0_eq (c : Dev nD) (b : Fin 16) (l d : Fin 512) :
    b0 m c (point b) (ix3 (part b) l d) = m ((c : Thread nD τ).loc main_arg0) (ix3 b l d : S16x512x512.Idx) := by
  show V m c main_arg0 (((cfg0.win 0).blk (point b)).view.emb (ix3 (part b) l d : S2x512x512.Idx)) = _
  rw [emb0, V_main_arg0]

theorem flush10 : ∀ t : Fin cfg0.N, (cfg0.win 10).flush t = true := (by decide +kernel : ∀ t : Fin grid0.N, win0_10.flush t = true)

theorem arr10 (c : Dev nD) (b : Fin 16) (l : Fin 512) :
    (dats m 0 c).arrAt 10 cfg0.N (ix3 b l 0 : S16x512x1.Idx)
      = left10 (b0 m c (point b)) (b1 m c (point b)) (b2 m c (point b)) (b3 m c (point b)) (b5 m c (point b)) (b6 m c (point b)) (b8 m c (point b)) (ix3 (part b) l 0) := by
  have h := congrFun (blocks10 m c (point b) (flush10 _)) (ix3 (part b) l 0 : S2x512x1.Idx)
  rw [flushed10, out10] at h

  refine Eq.trans ?_ h
  show _ = (dats m 0 c).arrAt 10 cfg0.N (((cfg0.win 10).blk (point b)).view.emb (ix3 (part b) l 0 : S2x512x1.Idx))
  rw [emb10]

theorem flush11 : ∀ t : Fin cfg0.N, (cfg0.win 11).flush t = true := (by decide +kernel : ∀ t : Fin grid0.N, win0_11.flush t = true)

theorem arr11 (c : Dev nD) (b : Fin 16) (l : Fin 512) :
    (dats m 0 c).arrAt 11 cfg0.N (ix3 b l 0 : S16x512x1.Idx)
      = left11 (b0 m c (point b)) (b1 m c (point b)) (b2 m c (point b)) (b4 m c (point b)) (b7 m c (point b)) (b9 m c (point b)) (ix3 (part b) l 0) := by
  have h := congrFun (blocks11 m c (point b) (flush11 _)) (ix3 (part b) l 0 : S2x512x1.Idx)
  rw [flushed11, out11] at h

  refine Eq.trans ?_ h
  show _ = (dats m 0 c).arrAt 11 cfg0.N (((cfg0.win 11).blk (point b)).view.emb (ix3 (part b) l 0 : S2x512x1.Idx))
  rw [emb11]

theorem flush12 : ∀ t : Fin cfg0.N, (cfg0.win 12).flush t = true := (by decide +kernel : ∀ t : Fin grid0.N, win0_12.flush t = true)

theorem arr12 (c : Dev nD) (b : Fin 16) (l d : Fin 512) :
    (dats m 0 c).arrAt 12 cfg0.N (ix3 b l d : S16x512x512.Idx)
      = m ((c : Thread nD τ).loc main_arg0) (ix3 b l d : S16x512x512.Idx) := by
  have h := congrFun (blocks12 m c (point b) (flush12 _)) (ix3 (part b) l d : S2x512x512.Idx)
  rw [flushed12, out12] at h
  rw [← b0_eq m c b l d]
  refine Eq.trans ?_ h
  show _ = (dats m 0 c).arrAt 12 cfg0.N (((cfg0.win 12).blk (point b)).view.emb (ix3 (part b) l d : S2x512x512.Idx))
  rw [emb12]

end Cert.KArr

end
-- ==== Proof.Spec.lean ====
module

public import Idealize.ShloMosaic.PureOps.Ideal.Laws

@[expose] public section

noncomputable section

/-! The mathematics of the problem over the reals: rows are positions, columns are channels. -/
namespace Cert.Spec

open Finset

/-- The row before, zero before the first. -/
def prev (X : Fin 512 → Fin 512 → ℝ) (l d : Fin 512) : ℝ :=
  if h : 0 < l.1 then X ⟨l.1 - 1, by omega⟩ d else 0

/-- The row after, zero after the last. -/
def next (X : Fin 512 → Fin 512 → ℝ) (l d : Fin 512) : ℝ :=
  if h : l.1 < 511 then X ⟨l.1 + 1, by omega⟩ d else 0

/-- The three-tap convolution with its bias and the rectifier. -/
def conv (X : Fin 512 → Fin 512 → ℝ) (W0 W1 W2 : Fin 512 → Fin 512 → ℝ) (b : Fin 512 → ℝ) (l o : Fin 512) : ℝ :=
  max (∑ d, prev X l d * W0 d o + ∑ d, X l d * W1 d o + ∑ d, next X l d * W2 d o + b o) 0

/-- The mean of a column. -/
def mean (T : Fin 512 → Fin 512 → ℝ) (o : Fin 512) : ℝ := (∑ l, T l o) / 512

/-- The variance of a column. -/
def var (T : Fin 512 → Fin 512 → ℝ) (o : Fin 512) : ℝ := (∑ l, (T l o - mean T o) * (T l o - mean T o)) / 512

/-- The number that keeps the variance off zero. -/
def eps : ℝ := 10995116 / 1099511627776

/-- The reciprocal standard deviation of a column. -/
def inv (T : Fin 512 → Fin 512 → ℝ) (o : Fin 512) : ℝ := (√(var T o + eps))⁻¹

/-- The normalised columns, scaled and shifted by one number per row. -/
def norm (T : Fin 512 → Fin 512 → ℝ) (lw lb : Fin 512 → ℝ) (l o : Fin 512) : ℝ :=
  (T l o - mean T o) * inv T o * lw l + lb l

/-- The projection of each row to one number. -/
def head (N : Fin 512 → Fin 512 → ℝ) (w : Fin 512 → ℝ) (l : Fin 512) : ℝ := ∑ o, N l o * w o

theorem eps_pos : 0 < eps := by unfold eps; norm_num

theorem var_nonneg (T : Fin 512 → Fin 512 → ℝ) (o : Fin 512) : 0 ≤ var T o :=
  div_nonneg (Finset.sum_nonneg fun _ _ => mul_self_nonneg _) (by norm_num)

theorem var_eps_pos (T : Fin 512 → Fin 512 → ℝ) (o : Fin 512) : 0 < var T o + eps :=
  add_pos_of_nonneg_of_pos (var_nonneg T o) eps_pos

/-- The variance is the mean of the squares less the square of the mean. -/
theorem var_eq (T : Fin 512 → Fin 512 → ℝ) (o : Fin 512) :
    var T o = mean (fun l o => T l o * T l o) o - mean T o * mean T o := by
  have h : ∑ l, T l o = mean T o * 512 := by unfold mean; ring
  have e : ∑ l, (T l o - mean T o) * (T l o - mean T o)
      = ∑ l, T l o * T l o - 2 * mean T o * ∑ l, T l o + 512 * (mean T o * mean T o) := by
    rw [Finset.mul_sum, ← Finset.sum_sub_distrib]
    have : (512 : ℝ) * (mean T o * mean T o) = ∑ _l : Fin 512, mean T o * mean T o := by simp
    rw [this, ← Finset.sum_add_distrib]
    exact Finset.sum_congr rfl fun _ _ => by ring
  unfold var
  rw [e, h]
  unfold mean
  ring

/-- The projection of the normalised rows, from the sums the unnormalised ones give. -/
theorem head_norm (T : Fin 512 → Fin 512 → ℝ) (lw lb w : Fin 512 → ℝ) (l : Fin 512) :
    lw l * (∑ o, T l o * (inv T o * w o) - ∑ o, mean T o * inv T o * w o) + lb l * ∑ o, w o
      = head (norm T lw lb) w l := by
  unfold head norm
  rw [← Finset.sum_sub_distrib, Finset.mul_sum, Finset.mul_sum, ← Finset.sum_add_distrib]
  exact Finset.sum_congr rfl fun _ _ => by ring

/-- A finite sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The larger of two reals, read in the extended reals. -/
theorem coe_max (a b : ℝ) : ((max a b : ℝ) : EReal) = max (a : EReal) b :=
  EReal.coe_strictMono.monotone.map_max

end Cert.Spec

end
-- ==== Proof.KValues.lean ====
module

public import proofs.«01_k».proof.Proof.Stages
public import proofs.«01_k».proof.Proof.Spec
public import Idealize.ShloMosaic.PureOps.Ideal.Laws
public import Idealize.ShloMosaic.Lib.Pointwise
public import Idealize.ShloMosaic.Lib.IdealHost

@[expose] public section

set_option maxRecDepth 16384
set_option synthInstance.maxSize 4096

noncomputable section

/-! The kernel's stages at the exact values: on real inputs each reads as its formula over the reals. -/
namespace Cert.KValues

open Cert.KernelIdeal Cert.KernelIdeal.Gen Idealize.ShloMosaic Cert

/-- The constant 512. -/
theorem ofBits_512 : Ideal.ofBits .f32 0x44000000#32 = ((512 : ℝ) : EReal) := by
  simp [Ideal.ofBits, Ideal.ieee, -EReal.coe_mul]
  norm_num

/-- The constant that keeps the variance off zero. -/
theorem ofBits_eps : Ideal.ofBits .f32 0x3727C5AC#32 = ((Spec.eps : ℝ) : EReal) := by
  unfold Spec.eps
  simp [Ideal.ofBits, Ideal.ieee, -EReal.coe_mul]
  norm_num

/-- Dividing a real by 512. -/
theorem div_512 (a : ℝ) : Ideal.div (a : EReal) ((512 : ℝ) : EReal) = ((a / 512 : ℝ) : EReal) := by
  rw [Ideal.div_coe (by norm_num), ← EReal.coe_mul, mul_one_div]

/-- The reciprocal square root of a positive real. -/
theorem rsqrt_pos {r : ℝ} (h : 0 < r) : Ideal.rsqrt (r : EReal) = (((√r)⁻¹ : ℝ) : EReal) := by
  rw [Ideal.rsqrt_coe, if_neg (not_lt.2 h.le), if_neg h.ne']

section
variable {x : FVec Ideal S512x512 .bf16} {X : Fin 512 → Fin 512 → ℝ} (hx : ∀ l d, x (ix2 l d) = ((X l d : ℝ) : EReal))
include hx

theorem before_eq (l d : Fin 512) : Stages.before x (ix2 l d) = ((Spec.prev X l d : ℝ) : EReal) := by
  unfold Stages.before Stages.zeroRow
  pointwise
  unfold Spec.prev
  by_cases h : 0 < l.1
  · rw [dif_pos h, dif_neg (by omega), hx]
  · rw [dif_neg h, dif_pos (by omega)]; rfl

theorem after_eq (l d : Fin 512) : Stages.after x (ix2 l d) = ((Spec.next X l d : ℝ) : EReal) := by
  unfold Stages.after Stages.zeroRow
  pointwise
  unfold Spec.next
  by_cases h : l.1 < 511
  · rw [dif_pos h, dif_pos (by omega), hx, show (⟨1 + l.1, by omega⟩ : Fin 512) = ⟨l.1 + 1, by omega⟩ from Fin.ext (Nat.add_comm _ _)]
  · rw [dif_neg h, dif_neg (by omega)]; rfl

theorem tap_eq {w : Vec Ideal S1x512x512 .bf16} {W : Fin 512 → Fin 512 → ℝ}
    (hw : ∀ d o, w (ix3 0 d o) = ((W d o : ℝ) : EReal)) (l o : Fin 512) :
    Stages.tap x w (ix2 l o) = ((∑ d, X l d * W d o : ℝ) : EReal) := by
  unfold Stages.tap
  pointwise
  rw [Spec.coe_sum]
  exact Finset.sum_congr rfl fun d _ => by rw [hx, hw, EReal.coe_mul]

theorem conv_eq {w0 w1 w2 : Vec Ideal S1x512x512 .bf16} {W0 W1 W2 : Fin 512 → Fin 512 → ℝ} {b : Vec Ideal S512 .f32}
    {B : Fin 512 → ℝ} (h0 : ∀ d o, w0 (ix3 0 d o) = ((W0 d o : ℝ) : EReal)) (h1 : ∀ d o, w1 (ix3 0 d o) = ((W1 d o : ℝ) : EReal))
    (h2 : ∀ d o, w2 (ix3 0 d o) = ((W2 d o : ℝ) : EReal)) (hb : ∀ o, b (ix1 o) = ((B o : ℝ) : EReal)) (l o : Fin 512) :
    Stages.conv x w0 w1 w2 b (ix2 l o) = ((Spec.conv X W0 W1 W2 B l o : ℝ) : EReal) := by
  unfold Stages.conv
  pointwise
  rw [tap_eq (before_eq hx) h0, tap_eq hx h1, tap_eq (after_eq hx) h2, hb]
  unfold Spec.conv
  rw [Spec.coe_max, EReal.coe_add, EReal.coe_add, EReal.coe_add, EReal.coe_zero]

end

section
variable {t : FVec Ideal S512x512 .f32} {T : Fin 512 → Fin 512 → ℝ} (ht : ∀ l d, t (ix2 l d) = ((T l d : ℝ) : EReal))
include ht

theorem mean_eq (o : Fin 512) : Stages.mean t (ix2 0 o) = ((Spec.mean T o : ℝ) : EReal) := by
  unfold Stages.mean
  pointwise
  rw [ofBits_512, Finset.sum_congr rfl fun l _ => ht l o, ← Spec.coe_sum, div_512]
  rfl

theorem inv_eq (o : Fin 512) : Stages.inv t (ix2 0 o) = ((Spec.inv T o : ℝ) : EReal) := by
  unfold Stages.inv
  pointwise
  rw [mean_eq ht, mean_eq (t := mulf t t) (T := fun l o => T l o * T l o) (fun l d => by pointwise; rw [ht, EReal.coe_mul]),
    ofBits_eps, ← EReal.coe_mul, ← EReal.coe_sub, ← Spec.var_eq, ← EReal.coe_zero, ← Spec.coe_max,
    max_eq_left (Spec.var_nonneg T o), ← EReal.coe_add, rsqrt_pos (Spec.var_eps_pos T o)]
  rfl

theorem norm_eq {lw lb : Vec Ideal S512x1 .f32} {LW LB : Fin 512 → ℝ} (hw : ∀ l, lw (ix2 l 0) = ((LW l : ℝ) : EReal))
    (hb : ∀ l, lb (ix2 l 0) = ((LB l : ℝ) : EReal)) (l o : Fin 512) :
    Stages.norm t lw lb (ix2 l o) = ((Spec.norm T LW LB l o : ℝ) : EReal) := by
  unfold Stages.norm
  pointwise
  rw [ht, mean_eq ht, inv_eq ht, hw, hb]
  unfold Spec.norm
  rw [EReal.coe_add, EReal.coe_mul, EReal.coe_mul, EReal.coe_sub]

end

theorem total_eq {v : FVec Ideal S512 .f32} {V : Fin 512 → ℝ} (hv : ∀ o, v (ix1 o) = ((V o : ℝ) : EReal)) :
    Stages.total v = ((∑ o, V o : ℝ) : EReal) := by
  unfold Stages.total
  pointwise
  rw [Spec.coe_sum]
  exact Finset.sum_congr rfl fun o _ => hv o

theorem head_eq {t : FVec Ideal S512x512 .bf16} {T : Fin 512 → Fin 512 → ℝ} (ht : ∀ l d, t (ix2 l d) = ((T l d : ℝ) : EReal))
    {w : Vec Ideal S1x512 .f32} {W : Fin 512 → ℝ} (hw : ∀ o, w (ix2 0 o) = ((W o : ℝ) : EReal))
    {lw lb : Vec Ideal S512x1 .f32} {LW LB : Fin 512 → ℝ} (hlw : ∀ l, lw (ix2 l 0) = ((LW l : ℝ) : EReal))
    (hlb : ∀ l, lb (ix2 l 0) = ((LB l : ℝ) : EReal)) (b : Elt Ideal .f32) (l : Fin 512) :
    Stages.head t w lw lb b (ix2 l 0) = ((Spec.head (Spec.norm T LW LB) W l : ℝ) : EReal) + (b : EReal) := by
  have hm := mean_eq (t := extf .f32 t bitsLt_bf16_f32) (T := T) (fun l d => by pointwise; exact ht l d)
  have hi := inv_eq (t := extf .f32 t bitsLt_bf16_f32) (T := T) (fun l d => by pointwise; exact ht l d)
  unfold Stages.head
  pointwise
  rw [total_eq (V := fun o => Spec.mean T o * Spec.inv T o * W o)
      (fun o => by pointwise; rw [hm, hi, hw, EReal.coe_mul, EReal.coe_mul]),
    total_eq (V := W) (fun o => by pointwise; exact hw o), hlw, hlb,
    Finset.sum_congr rfl (fun o _ => by rw [ht l o, hi o, hw o, ← EReal.coe_mul, ← EReal.coe_mul]),
    ← Spec.coe_sum, ← EReal.coe_sub, ← EReal.coe_mul, ← EReal.coe_mul, ← EReal.coe_add, Spec.head_norm]

/-- The rows of one batch element. -/
theorem rows_eq {x : Vec Ideal S1x512x512 .f32} {X : Fin 512 → Fin 512 → ℝ} (hx : ∀ l d, x (ix3 0 l d) = ((X l d : ℝ) : EReal))
    (l d : Fin 512) : Stages.rows x (ix2 l d) = ((X l d : ℝ) : EReal) := by
  unfold Stages.rows
  pointwise
  exact hx l d

/-- Narrowing keeps an exact value. -/
theorem trunc_eq {t : FVec Ideal S512x512 .f32} {T : Fin 512 → Fin 512 → ℝ} (ht : ∀ l d, t (ix2 l d) = ((T l d : ℝ) : EReal))
    (l d : Fin 512) : truncf .bf16 t bitsLt_bf16_f32 (ix2 l d) = ((T l d : ℝ) : EReal) := by
  pointwise
  exact ht l d

section
variable {x : Vec Ideal S1x512x512 .f32} {X : Fin 512 → Fin 512 → ℝ} (hx : ∀ l d, x (ix3 0 l d) = ((X l d : ℝ) : EReal))
  {w0 w1 w2 : Vec Ideal S1x512x512 .bf16} {W0 W1 W2 : Fin 512 → Fin 512 → ℝ}
  (h0 : ∀ d o, w0 (ix3 0 d o) = ((W0 d o : ℝ) : EReal)) (h1 : ∀ d o, w1 (ix3 0 d o) = ((W1 d o : ℝ) : EReal))
  (h2 : ∀ d o, w2 (ix3 0 d o) = ((W2 d o : ℝ) : EReal))
  {b : Vec Ideal S512 .f32} {B : Fin 512 → ℝ} (hb : ∀ o, b (ix1 o) = ((B o : ℝ) : EReal))
  {lw lb : Vec Ideal S512x1 .f32} {LW LB : Fin 512 → ℝ} (hlw : ∀ l, lw (ix2 l 0) = ((LW l : ℝ) : EReal))
  (hlb : ∀ l, lb (ix2 l 0) = ((LB l : ℝ) : EReal))
  {w : Vec Ideal S1x512 .f32} {W : Fin 512 → ℝ} (hw : ∀ o, w (ix2 0 o) = ((W o : ℝ) : EReal))
include hx h0 h1 h2 hb hlw hlb hw

/-- The pitch branch. -/
theorem pitch_eq (b2 : Elt Ideal .f32) (l : Fin 512) :
    Stages.pitch x w0 w1 w2 b w lw lb b2 (ix3 0 l 0)
      = ((Spec.head (Spec.norm (Spec.conv X W0 W1 W2 B) LW LB) W l : ℝ) : EReal) + (b2 : EReal) := by
  unfold Stages.pitch
  pointwise
  exact head_eq (trunc_eq (conv_eq (rows_eq hx) h0 h1 h2 hb)) hw hlw hlb b2 l

/-- The duration branch. -/
theorem dur_eq {u0 u1 u2 : Vec Ideal S1x512x512 .bf16} {U0 U1 U2 : Fin 512 → Fin 512 → ℝ}
    (k0 : ∀ d o, u0 (ix3 0 d o) = ((U0 d o : ℝ) : EReal)) (k1 : ∀ d o, u1 (ix3 0 d o) = ((U1 d o : ℝ) : EReal))
    (k2 : ∀ d o, u2 (ix3 0 d o) = ((U2 d o : ℝ) : EReal))
    {b' : Vec Ideal S512 .f32} {B' : Fin 512 → ℝ} (hb' : ∀ o, b' (ix1 o) = ((B' o : ℝ) : EReal))
    {lw' lb' : Vec Ideal S512x1 .f32} {LW' LB' : Fin 512 → ℝ} (hlw' : ∀ l, lw' (ix2 l 0) = ((LW' l : ℝ) : EReal))
    (hlb' : ∀ l, lb' (ix2 l 0) = ((LB' l : ℝ) : EReal)) (b3 : Elt Ideal .f32) (l : Fin 512) :
    Stages.dur x w0 w1 w2 b lw lb u0 u1 u2 b' w lw' lb' b3 (ix3 0 l 0)
      = max (Ideal.exp (((Spec.head (Spec.norm (Spec.conv (Spec.norm (Spec.conv X W0 W1 W2 B) LW LB) U0 U1 U2 B') LW' LB') W l : ℝ) : EReal)
          + (b3 : EReal))) 1 := by
  unfold Stages.dur
  pointwise
  rw [head_eq (trunc_eq (conv_eq (trunc_eq (norm_eq (conv_eq (rows_eq hx) h0 h1 h2 hb) hlw hlb)) k0 k1 k2 hb')) hw hlw' hlb' b3 l]

end

end Cert.KValues

end
-- ==== Proof.KLeft.lean ====
module

public import proofs.«01_k».proof.Proof.KOut
public import proofs.«01_k».proof.Proof.KValues

@[expose] public section

set_option maxRecDepth 16384
set_option synthInstance.maxSize 4096

noncomputable section

/-! What a grid point leaves in each output's buffer, at the exact values. -/
namespace Cert.KLeft

open Cert.KernelIdeal Cert.KernelIdeal.Gen Idealize.ShloMosaic Cert Cert.KOut

section loads
variable {F : FTy → Type} [FloatOps F]

theorem half0_apply (x0 : Vec F S2x512x512 .f32) (l d : Fin 512) : half0 x0 (ix3 0 l d) = x0 (ix3 0 l d) :=
  View.ld_unit_apply_of x0 _ _ _ (ix3 0 l d : S1x512x512.Idx) _ fun a => by fin_cases a <;> simp

theorem half1_apply (x0 : Vec F S2x512x512 .f32) (l d : Fin 512) : half1 x0 (ix3 0 l d) = x0 (ix3 1 l d) :=
  View.ld_unit_apply_of x0 _ _ _ (ix3 0 l d : S1x512x512.Idx) _ fun a => by fin_cases a <;> simp

/-- One tap of the weights. -/
theorem tap_apply (x1 : Vec F S9x512x512 .bf16) (k : Fin 9) (h : ∀ a, (![k.1, 0, 0] : Fin 3 → Nat) a + S1x512x512.size a ≤ S9x512x512.size a)
    (d o : Fin 512) : View.ld x1 (Rect.unit ![k.1, 0, 0] ![1, 512, 512] h) (ix3 0 d o : S1x512x512.Idx) = x1 (ix3 k d o) :=
  View.ld_unit_apply_of x1 _ _ _ (ix3 0 d o : S1x512x512.Idx) _ fun a => by fin_cases a <;> simp

/-- One column of the scales and shifts. -/
theorem col_apply (x2 : Vec F S512x6 .f32) (k : Fin 6) (h : ∀ a, (![0, k.1] : Fin 2 → Nat) a + S512x1.size a ≤ S512x6.size a)
    (l : Fin 512) : View.ld x2 (Rect.unit ![0, k.1] ![512, 1] h) (ix2 l 0 : S512x1.Idx) = x2 (ix2 l k) :=
  View.ld_unit_apply_of x2 _ _ _ (ix2 l 0 : S512x1.Idx) _ fun a => by fin_cases a <;> simp

theorem bias_apply (x : Vec F S512 .f32) (o : Fin 512) :
    View.ld x (Rect.unit ![0] ![512] inb_S512_S512_0) (ix1 o : S512.Idx) = x (ix1 o) :=
  View.ld_unit_apply_of x _ _ _ (ix1 o : S512.Idx) _ fun a => by fin_cases a; simp

theorem row_apply (x : Vec F S1x512 .f32) (o : Fin 512) :
    View.ld x (Rect.unit ![0, 0] ![1, 512] inb_S1x512_S1x512_0_0) (ix2 0 o : S1x512.Idx) = x (ix2 0 o) :=
  View.ld_unit_apply_of x _ _ _ (ix2 0 o : S1x512.Idx) _ fun a => by fin_cases a <;> simp

theorem word_apply (x : Vec F S1 .f32) : word x = x (ix1 0) :=
  View.ld_unit_apply_of x _ _ _ _ _ fun a => by fin_cases a; rfl

/-- The two pieces of an output's buffer, read at one position. -/
theorem pieces_eq {u v : FVec F S1x512x1 .f32} {y : Elt F .f32} (q : Fin 2) (l : Fin 512) (hu : q = 1 → u (ix3 0 l 0) = y)
    (hv : q = 0 → v (ix3 0 l 0) = y) :
    View.canon (Val := Elt F) (e := .f32) [⟨Rect.unit ![1, 0, 0] ![1, 512, 1] inb_S2x512x1_S1x512x1_1_0_0, u⟩,
      ⟨Rect.unit ![0, 0, 0] ![1, 512, 1] inb_S2x512x1_S1x512x1_0_0_0, v⟩] (ix3 q l 0 : S2x512x1.Idx) = y := by
  have hx : ∀ (o : Nat) (x : S1x512x1.Idx), (∀ a, ((ix3 q l 0 : S2x512x1.Idx) a : Nat) = (![o, 0, 0] : Fin 3 → Nat) a + x a) →
      q.1 = o ∧ x = ix3 0 l 0 := by
    intro o x h
    have e0 := h 0; have e1 := h 1; have e2 := h 2
    have b0 := (x 0).isLt; have b2 := (x 2).isLt
    simp at e0 e1 e2
    change (x 0).val < 1 at b0; change (x 2).val < 1 at b2
    refine ⟨by omega, funext fun a => Fin.ext ?_⟩
    fin_cases a
    · show (x 0).val = 0; omega
    · show (x 1).val = l.val; omega
    · show (x 2).val = 0; omega
  refine View.canon_eq_of_allAt _ _ _ (View.cover_of_tiled_head _ _ _ (by rfl) _)
    (View.allAt_cons_unit _ _ _ _ _ ?_ (View.allAt_cons_unit _ _ _ _ _ ?_ (View.allAt_nil _ _)))
  · intro x h
    obtain ⟨e, rfl⟩ := hx 1 x h
    exact hu (Fin.ext e)
  · intro x h
    obtain ⟨e, rfl⟩ := hx 0 x h
    exact hv (Fin.ext e)

end loads

variable {x1 : Vec Ideal S9x512x512 .bf16} {W : Fin 9 → Fin 512 → Fin 512 → ℝ} (h1 : ∀ k d o, x1 (ix3 k d o) = ((W k d o : ℝ) : EReal))
  {x2 : Vec Ideal S512x6 .f32} {C : Fin 512 → Fin 6 → ℝ} (h2 : ∀ l k, x2 (ix2 l k) = ((C l k : ℝ) : EReal))
include h1 h2

theorem pitchOf_eq {x : Vec Ideal S1x512x512 .f32} {X : Fin 512 → Fin 512 → ℝ} (hx : ∀ l d, x (ix3 0 l d) = ((X l d : ℝ) : EReal))
    {x4 : Vec Ideal S512 .f32} {B : Fin 512 → ℝ} (h4 : ∀ o, x4 (ix1 o) = ((B o : ℝ) : EReal))
    {x7 : Vec Ideal S1x512 .f32} {P : Fin 512 → ℝ} (h7 : ∀ o, x7 (ix2 0 o) = ((P o : ℝ) : EReal))
    (x9 : Vec Ideal S1 .f32) (l : Fin 512) :
    pitchOf x x1 x2 x4 x7 x9 (ix3 0 l 0)
      = ((Spec.head (Spec.norm (Spec.conv X (W 3) (W 4) (W 5) B) (fun l => C l 4) (fun l => C l 5)) P l : ℝ) : EReal)
        + (x9 (ix1 0) : EReal) := by
  rw [← word_apply x9]
  exact KValues.pitch_eq hx (fun d o => (tap_apply x1 3 _ d o).trans (h1 3 d o)) (fun d o => (tap_apply x1 4 _ d o).trans (h1 4 d o))
    (fun d o => (tap_apply x1 5 _ d o).trans (h1 5 d o)) (fun o => (bias_apply x4 o).trans (h4 o))
    (fun l => (col_apply x2 4 _ l).trans (h2 l 4)) (fun l => (col_apply x2 5 _ l).trans (h2 l 5))
    (fun o => (row_apply x7 o).trans (h7 o)) _ l

theorem durOf_eq {x : Vec Ideal S1x512x512 .f32} {X : Fin 512 → Fin 512 → ℝ} (hx : ∀ l d, x (ix3 0 l d) = ((X l d : ℝ) : EReal))
    {x3 : Vec Ideal S512 .f32} {B : Fin 512 → ℝ} (h3 : ∀ o, x3 (ix1 o) = ((B o : ℝ) : EReal))
    {x5 : Vec Ideal S512 .f32} {B' : Fin 512 → ℝ} (h5 : ∀ o, x5 (ix1 o) = ((B' o : ℝ) : EReal))
    {x6 : Vec Ideal S1x512 .f32} {P : Fin 512 → ℝ} (h6 : ∀ o, x6 (ix2 0 o) = ((P o : ℝ) : EReal))
    (x8 : Vec Ideal S1 .f32) (l : Fin 512) :
    durOf x x1 x2 x3 x5 x6 x8 (ix3 0 l 0)
      = max (Ideal.exp (((Spec.head (Spec.norm (Spec.conv (Spec.norm (Spec.conv X (W 0) (W 1) (W 2) B) (fun l => C l 0) (fun l => C l 1))
          (W 6) (W 7) (W 8) B') (fun l => C l 2) (fun l => C l 3)) P l : ℝ) : EReal) + (x8 (ix1 0) : EReal))) 1 := by
  rw [← word_apply x8]
  exact KValues.dur_eq hx (fun d o => (tap_apply x1 0 _ d o).trans (h1 0 d o)) (fun d o => (tap_apply x1 1 _ d o).trans (h1 1 d o))
    (fun d o => (tap_apply x1 2 _ d o).trans (h1 2 d o)) (fun o => (bias_apply x3 o).trans (h3 o))
    (fun l => (col_apply x2 0 _ l).trans (h2 l 0)) (fun l => (col_apply x2 1 _ l).trans (h2 l 1))
    (fun o => (row_apply x6 o).trans (h6 o))
    (fun d o => (tap_apply x1 6 _ d o).trans (h1 6 d o)) (fun d o => (tap_apply x1 7 _ d o).trans (h1 7 d o))
    (fun d o => (tap_apply x1 8 _ d o).trans (h1 8 d o)) (fun o => (bias_apply x5 o).trans (h5 o))
    (fun l => (col_apply x2 2 _ l).trans (h2 l 2)) (fun l => (col_apply x2 3 _ l).trans (h2 l 3)) _ l

variable {x0 : Vec Ideal S2x512x512 .f32} {X : Fin 2 → Fin 512 → Fin 512 → ℝ} (h0 : ∀ q l d, x0 (ix3 q l d) = ((X q l d : ℝ) : EReal))
include h0

theorem left11_eq {x4 : Vec Ideal S512 .f32} {B : Fin 512 → ℝ} (h4 : ∀ o, x4 (ix1 o) = ((B o : ℝ) : EReal))
    {x7 : Vec Ideal S1x512 .f32} {P : Fin 512 → ℝ} (h7 : ∀ o, x7 (ix2 0 o) = ((P o : ℝ) : EReal))
    (x9 : Vec Ideal S1 .f32) (q : Fin 2) (l : Fin 512) :
    left11 x0 x1 x2 x4 x7 x9 (ix3 q l 0)
      = ((Spec.head (Spec.norm (Spec.conv (X q) (W 3) (W 4) (W 5) B) (fun l => C l 4) (fun l => C l 5)) P l : ℝ) : EReal)
        + (x9 (ix1 0) : EReal) := by
  unfold left11
  refine pieces_eq q l ?_ ?_
  · rintro rfl
    exact pitchOf_eq h1 h2 (fun l d => (half1_apply x0 l d).trans (h0 1 l d)) h4 h7 x9 l
  · rintro rfl
    exact pitchOf_eq h1 h2 (fun l d => (half0_apply x0 l d).trans (h0 0 l d)) h4 h7 x9 l

theorem left10_eq {x3 : Vec Ideal S512 .f32} {B : Fin 512 → ℝ} (h3 : ∀ o, x3 (ix1 o) = ((B o : ℝ) : EReal))
    {x5 : Vec Ideal S512 .f32} {B' : Fin 512 → ℝ} (h5 : ∀ o, x5 (ix1 o) = ((B' o : ℝ) : EReal))
    {x6 : Vec Ideal S1x512 .f32} {P : Fin 512 → ℝ} (h6 : ∀ o, x6 (ix2 0 o) = ((P o : ℝ) : EReal))
    (x8 : Vec Ideal S1 .f32) (q : Fin 2) (l : Fin 512) :
    left10 x0 x1 x2 x3 x5 x6 x8 (ix3 q l 0)
      = max (Ideal.exp (((Spec.head (Spec.norm (Spec.conv (Spec.norm (Spec.conv (X q) (W 0) (W 1) (W 2) B) (fun l => C l 0) (fun l => C l 1))
          (W 6) (W 7) (W 8) B') (fun l => C l 2) (fun l => C l 3)) P l : ℝ) : EReal) + (x8 (ix1 0) : EReal))) 1 := by
  unfold left10
  refine pieces_eq q l ?_ ?_
  · rintro rfl
    exact durOf_eq h1 h2 (fun l d => (half1_apply x0 l d).trans (h0 1 l d)) h3 h5 h6 x8 l
  · rintro rfl
    exact durOf_eq h1 h2 (fun l d => (half0_apply x0 l d).trans (h0 0 l d)) h3 h5 h6 x8 l

end Cert.KLeft

end
-- ==== Proof.RStages.lean ====
module

public import proofs.«01_k».proof.Proof.Gen.ReferenceIdeal.Read

@[expose] public section

set_option maxRecDepth 16384
set_option synthInstance.maxSize 4096

noncomputable section

/-! The stages of the reference, each named once: both heads are read through the same definitions. -/
namespace Cert.RStages

open Cert.ReferenceIdeal Cert.ReferenceIdeal.Gen Cert.ReferenceIdeal.Read Idealize.ShloMosaic

variable {F : FTy → Type} [FloatOps F]

/-- Channels first: the last two axes exchanged. -/
def flip (x : FVec F S16x512x512 .f32) : FVec F S16x512x512 .f32 :=
  transpose S16x512x512 [0, 2, 1] x transposes_S16x512x512_S16x512x512_0_2_1

/-- One zero position before the first and one after the last. -/
def padded (x : FVec F S16x512x512 .f32) : FVec F S16x512x514 .f32 :=
  pad S16x512x514 ![0, 0, 1] ![0, 0, 1] ![0, 0, 0] x (sitofp .f32 (constantI S_ 32 0#32))
    pads_S16x512x512_S16x512x514_000_000_110 h_S_

/-- The product of shifted channels with one tap of the weights. -/
def product (y : FVec F S16x512x512 .f32) (w : FVec F S512x512x1 .f32) : FVec F S16x512x512 .f32 :=
  flip (Host.dotGeneral dot_S16x512x512_S512x512_S16x512x512_1_1_02_0_n_n none y (shapeCast _ w shapeCasts_S512x512x1_S512x512))

/-- The first tap of the convolution. -/
def tap0 (x : FVec F S16x512x512 .f32) (w : FVec F S512x512x3 .f32) : FVec F S16x512x512 .f32 :=
  product (extractStridedSlice S16x512x512 ![0, 0, 0] (padded x) slices_S16x512x514_S16x512x512_0_0_0)
    (extractStridedSlice S512x512x1 ![0, 0, 0] w slices_S512x512x3_S512x512x1_0_0_0)

/-- The middle tap of the convolution. -/
def tap1 (x : FVec F S16x512x512 .f32) (w : FVec F S512x512x3 .f32) : FVec F S16x512x512 .f32 :=
  product (extractStridedSlice S16x512x512 ![0, 0, 1] (padded x) slices_S16x512x514_S16x512x512_0_0_1)
    (extractStridedSlice S512x512x1 ![0, 0, 1] w slices_S512x512x3_S512x512x1_0_0_1)

/-- The last tap of the convolution. -/
def tap2 (x : FVec F S16x512x512 .f32) (w : FVec F S512x512x3 .f32) : FVec F S16x512x512 .f32 :=
  product (extractStridedSlice S16x512x512 ![0, 0, 2] (padded x) slices_S16x512x514_S16x512x512_0_0_2)
    (extractStridedSlice S512x512x1 ![0, 0, 2] w slices_S512x512x3_S512x512x1_0_0_2)

/-- The convolution with three taps, its bias, and the rectifier. -/
def conv (x : FVec F S16x512x512 .f32) (w : FVec F S512x512x3 .f32) (b : FVec F S512 .f32) : FVec F S16x512x512 .f32 :=
  maximumf
    (addf (addf (addf (tap0 x w) (tap1 x w)) (tap2 x w))
      (broadcastInDim S16x512x512 ![0, 1, 2] bcast_S1x512x1_S16x512x512_0_1_2 (broadcastInDim S1x512x1 ![1] bcast_S512_S1x512x1_1 b)))
    (broadcastInDim S16x512x512 ![] bcast_S_S16x512x512 (constant S_ .f32 0x00000000#32))

/-- The mean over the positions. -/
def mean (t : FVec F S16x512x512 .f32) : FVec F S16x512x1 .f32 :=
  Host.divf
    (broadcastInDim S16x512x1 ![0, 1] bcast_S16x512_S16x512x1_0_1
      (Host.reduceAdd t (constant S_ .f32 0x00000000#32) reducesTo_S16x512x512_S16x512_d2 h_S_))
    (broadcastInDim S16x512x1 ![] bcast_S_S16x512x1 (constant S_ .f32 0x44000000#32))

/-- The distance from the mean. -/
def centred (t : FVec F S16x512x512 .f32) : FVec F S16x512x512 .f32 :=
  subf t (broadcastInDim S16x512x512 ![0, 1, 2] bcast_S16x512x1_S16x512x512_0_1_2 (mean t))

/-- The standard deviation over the positions. -/
def deviation (t : FVec F S16x512x512 .f32) : FVec F S16x512x1 .f32 :=
  Host.sqrt (addf (mean (mulf (centred t) (centred t)))
    (broadcastInDim S16x512x1 ![] bcast_S_S16x512x1 (constant S_ .f32 0x3727C5AC#32)))

/-- One number per position, for every batch element and channel. -/
def spread (w : FVec F S512 .f32) : FVec F S16x512x512 .f32 :=
  broadcastInDim S16x512x512 ![0, 1, 2] bcast_S1x1x512_S16x512x512_0_1_2 (broadcastInDim S1x1x512 ![2] bcast_S512_S1x1x512_2 w)

/-- The layer normalisation over the positions. -/
def norm (t : FVec F S16x512x512 .f32) (lw lb : FVec F S512 .f32) : FVec F S16x512x512 .f32 :=
  addf (mulf (Host.divf (centred t) (broadcastInDim S16x512x512 ![0, 1, 2] bcast_S16x512x1_S16x512x512_0_1_2 (deviation t))) (spread lw))
    (spread lb)

/-- The projection of the channels to one number. -/
def head (n : FVec F S16x512x512 .f32) (w : FVec F S1x512x1 .f32) (b : FVec F S1 .f32) : FVec F S16x512x1 .f32 :=
  transpose S16x512x1 [0, 2, 1]
    (addf (transpose S16x1x512 [0, 2, 1]
        (Host.dotGeneral dot_S16x512x512_S1x512_S16x512x1_1_1_02_0_n_n none n (shapeCast _ w shapeCasts_S1x512x1_S1x512))
        transposes_S16x512x1_S16x1x512_0_2_1)
      (broadcastInDim S16x1x512 ![0, 1, 2] bcast_S1x1x1_S16x1x512_0_1_2 (broadcastInDim S1x1x1 ![1] bcast_S1_S1x1x1_1 b)))
    transposes_S16x1x512_S16x512x1_0_2_1

section
variable (x0 : FVec F S16x512x512 .f32) (x1 : IVec S16x512 32) (x2 : FVec F S512x512x3 .f32) (x3 x4 x5 : FVec F S512 .f32)
  (x6 : FVec F S512x512x3 .f32) (x7 x8 x9 : FVec F S512 .f32) (x10 : FVec F S1x512x1 .f32) (x11 : FVec F S1 .f32)
  (x12 : FVec F S512x512x3 .f32) (x13 x14 x15 : FVec F S512 .f32) (x16 : FVec F S1x512x1 .f32) (x17 : FVec F S1 .f32)

theorem conv_first : val_main_v22 (F := F) x0 x2 x3 = conv (flip x0) x2 x3 := rfl

theorem norm_first : val_main_v46 (F := F) x0 x2 x3 x4 x5 = norm (val_main_v22 (F := F) x0 x2 x3) x4 x5 := rfl

theorem conv_second : val_main_v68 (F := F) x0 x2 x3 x4 x5 x6 x7 = conv (val_main_v46 (F := F) x0 x2 x3 x4 x5) x6 x7 := rfl

theorem norm_second :
    val_main_v92 (F := F) x0 x2 x3 x4 x5 x6 x7 x8 x9 = norm (val_main_v68 (F := F) x0 x2 x3 x4 x5 x6 x7) x8 x9 := rfl

theorem head_first :
    val_main_v99 (F := F) x0 x2 x3 x4 x5 x6 x7 x8 x9 x10 x11 = head (val_main_v92 (F := F) x0 x2 x3 x4 x5 x6 x7 x8 x9) x10 x11 := rfl

theorem conv_third : val_main_v153 (F := F) x0 x1 x12 x13 = conv (flip (val_main_v130 (F := F) x0 x1)) x12 x13 := rfl

theorem norm_third :
    val_main_v177 (F := F) x0 x1 x12 x13 x14 x15 = norm (val_main_v153 (F := F) x0 x1 x12 x13) x14 x15 := rfl

theorem head_second :
    val_main_v184 (F := F) x0 x1 x12 x13 x14 x15 x16 x17 = head (val_main_v177 (F := F) x0 x1 x12 x13 x14 x15) x16 x17 := rfl

/-- The reference's durations, from its own convolutions. -/
theorem durations :
    val_main_v102 (F := F) x0 x2 x3 x4 x5 x6 x7 x8 x9 x10 x11
      = maximumf (Host.exp (head (norm (conv (norm (conv (flip x0) x2 x3) x4 x5) x6 x7) x8 x9) x10 x11))
        (broadcastInDim S16x512x1 ![] bcast_S_S16x512x1 (constant S_ .f32 0x3F800000#32)) := by
  rw [← conv_first, ← norm_first, ← conv_second, ← norm_second, ← head_first]
  rfl

/-- The reference's pitch, from the regulated embedding. -/
theorem pitch :
    val_main_v184 (F := F) x0 x1 x12 x13 x14 x15 x16 x17
      = head (norm (conv (flip (val_main_v130 (F := F) x0 x1)) x12 x13) x14 x15) x16 x17 := by
  rw [← conv_third, ← norm_third, ← head_second]

end

end Cert.RStages

end
-- ==== Proof.RLen.lean ====
module

public import proofs.«01_k».proof.Proof.RStages
public import Idealize.ShloMosaic.Lib.Pointwise
public import Idealize.ShloMosaic.Lib.IndicatorCount
public import Idealize.ShloMosaic.Lib.WordCmp
public import Idealize.ShloMosaic.Lib.Routing.Ops

@[expose] public section

set_option maxRecDepth 16384
set_option synthInstance.maxSize 4096

noncomputable section

/-! The length regulator of the reference: where every duration is one it returns its embedding unchanged. -/
namespace Cert.RLen

open Cert.ReferenceIdeal Cert.ReferenceIdeal.Gen Cert.ReferenceIdeal.Read Idealize.ShloMosaic

/-- The window has as many places as there are positions. -/
theorem window_count : (⟨2, ![1, 512]⟩ : Shape).numel = 512 := Routing.numel2 512

/-- The place `n` of the window, along the batch. -/
theorem window_row (n : Fin (⟨2, ![1, 512]⟩ : Shape).numel) :
    ((⟨2, ![1, 512]⟩ : Shape).rowMajor.symm n 0).val = 0 := by
  rw [show (⟨2, ![1, 512]⟩ : Shape).rowMajor.symm n = _ from Routing.symm2 (N := 512) n]; rfl

/-- The place `n` of the window, along the positions. -/
theorem window_col (n : Fin (⟨2, ![1, 512]⟩ : Shape).numel) :
    ((⟨2, ![1, 512]⟩ : Shape).rowMajor.symm n 1).val = n.val := by
  rw [show (⟨2, ![1, 512]⟩ : Shape).rowMajor.symm n = _ from Routing.symm2 (N := 512) n]; rfl

variable {x1 : IVec S16x512 32} (h1 : ∀ i, x1 i = 1#32)

section
include h1

/-- The running sums of ones count the positions. -/
theorem ends_eq (b : Fin 16) (j : Fin 512) : val_main_v103 (F := Ideal) x1 (ix2 b j) = BitVec.ofNat 32 (j.val + 1) := by
  unfold val_main_v103 Host.reduceWindow
  refine (Routing.foldl_addi_ofNat _ _ (fun n => if 511 ≤ j.val + n.val then 1 else 0) (fun n _ => ?_) _ 0 rfl).trans ?_
  · have hn : n.val < 512 := lt_of_lt_of_eq n.isLt window_count
    have hj := j.isLt
    have hb := b.isLt
    dsimp only
    split
    · next hin =>
      have h := hin 1
      change 511 ≤ j.val * 1 + ((⟨2, ![1, 512]⟩ : Shape).rowMajor.symm n 1).val ∧ _ at h
      rw [window_col] at h
      rw [if_pos (by omega)]
      exact h1 _
    · next hin =>
      rw [if_neg fun hle => hin fun a => by
        match a with
        | ⟨0, _⟩ =>
          show 0 ≤ b.val * 1 + ((⟨2, ![1, 512]⟩ : Shape).rowMajor.symm n 0).val
            ∧ b.val * 1 + ((⟨2, ![1, 512]⟩ : Shape).rowMajor.symm n 0).val - 0 < 16
          rw [window_row]
          omega
        | ⟨1, _⟩ =>
          show 511 ≤ j.val * 1 + ((⟨2, ![1, 512]⟩ : Shape).rowMajor.symm n 1).val
            ∧ j.val * 1 + ((⟨2, ![1, 512]⟩ : Shape).rowMajor.symm n 1).val - 511 < 512
          rw [window_col]
          omega]
      rfl
  · rw [Nat.zero_add, Routing.map_finRange_val _ (fun w => if 511 ≤ j.val + w then 1 else 0), window_count,
      Routing.sum_window (fun _ => 1) 511 j.val (by have := j.isLt; omega)]
    simp

/-- As many running sums are at most `t` as there are positions before it. -/
theorem count_eq (b : Fin 16) (t : Fin 512) : val_main_v111 (F := Ideal) x1 (ix2 b t) = BitVec.ofNat 32 t.val := by
  unfold val_main_v111 val_main_v110 val_main_v109 val_main_c_11 val_main_v108 val_main_v107 val_main_v106 val_main_v105 val_main_v104
  pointwise
  rw [IndicatorCount.fold_addi_setWidth_eq_card]
  congr 1
  have ht := t.isLt
  rw [show (Finset.univ.filter fun x : Fin 512 =>
      IntOp.cmpi .sle (val_main_v103 (F := Ideal) x1 (ix2 b x)) (BitVec.ofNat 32 t.val) = 1#1) = Finset.univ.filter fun x : Fin 512 => x.val < t.val from
    Finset.filter_congr fun x _ => by
      have hx := x.isLt
      rw [ends_eq h1, WordCmp.cmpi_sle_ofNat_eq_one_iff (by omega) (by omega)]
      omega]
  rw [Fin.card_filter_val_lt]
  omega

end

/-- A nonnegative index is not wrapped. -/
theorem unwrapped (n : Nat) (hn : n < 512) (k : BitVec 32) :
    Scalar.select (IntOp.cmpi .slt (BitVec.ofNat 32 n) 0#32) k (BitVec.ofNat 32 n) = BitVec.ofNat 32 n := by
  rw [show (0#32 : BitVec 32) = BitVec.ofNat 32 0 from rfl, (WordCmp.cmpi_slt_ofNat_eq_zero_iff (by omega) (by omega)).2 (by omega)]
  rfl

/-- An index below the last is not lowered. -/
theorem lowered (n : Nat) (hn : n < 512) : IntOp.minsi (BitVec.ofNat 32 n) 511#32 = BitVec.ofNat 32 n := by
  unfold IntOp.minsi
  split
  · rfl
  · next h =>
    have : ¬ n < 511 := fun hl => h (by
      have := (WordCmp.cmpi_slt_ofNat_eq_one_iff (w := 32) (a := n) (b := 511) (by omega) (by omega)).2 hl
      cases e : (BitVec.ofNat 32 n).slt 511#32
      · exact absurd ((congrArg BitVec.ofBool e).symm.trans this) (by decide)
      · rfl)
    obtain rfl : n = 511 := by omega
    rfl

/-- The batch element each gathered row is read from. -/
theorem batch_eq (x1 : IVec S16x512 32) (b : Fin 16) (t : Fin 512) :
    val_main_v129 (F := Ideal) x1 (ix3 b t 0) = BitVec.ofNat 32 b.val := by
  unfold val_main_v129 val_main_v127 val_main_v126 val_main_v120 val_main_v119 val_main_v118 val_main_v117 val_main_v116 val_main_c_14
    val_main_c_13 val_main_v113 val_main_v112
  pointwise
  exact unwrapped b.val (by omega) _

include h1 in
/-- The position each gathered row is read from. -/
theorem position_eq (b : Fin 16) (t : Fin 512) : val_main_v129 (F := Ideal) x1 (ix3 b t 1) = BitVec.ofNat 32 t.val := by
  unfold val_main_v129 val_main_v128 val_main_v125 val_main_v124 val_main_v123 val_main_v122 val_main_v121 val_main_v115 val_main_v114
    val_main_c_16 val_main_c_15 val_main_c_12
  pointwise
  rw [count_eq h1, lowered t.val t.isLt]
  exact unwrapped t.val t.isLt _

/-- How the gather reads its operand. -/
abbrev gd := gather_S16x512x512_S16x512x2_S16x512x512_2_01_n_n_01_2_11512

/-- The gather of whole rows, read at an index whose start indices are known. -/
theorem gather_eq {α : Type} (x : S16x512x512.Idx → α) (idx : IVec S16x512x2 32) (b : Fin 16) (t e : Fin 512)
    (h0 : idx (ix3 b t 0) = BitVec.ofNat 32 b.val) (h1 : idx (ix3 b t 1) = BitVec.ofNat 32 t.val) :
    Host.gather gd x idx (ix3 b t e) = x (ix3 b t e) := by
  have hb := b.isLt
  have ht := t.isLt
  have hsi : ∀ k : Fin gd.startIndexMap.length, gd.siIdx (ix3 b t e) k = ix3 b t ⟨k.val, k.isLt⟩ := fun k => by
    funext a
    match a with
    | ⟨0, _⟩ => rfl
    | ⟨1, _⟩ => rfl
    | ⟨2, _⟩ => rfl
  unfold Host.gather
  refine congrArg x (funext fun a => Fin.ext ?_)
  show gd.start (ix3 b t e) idx a + gd.batchCoord (ix3 b t e) a + gd.offCoord (ix3 b t e) a = _
  rw [GatherDims.batchCoord_eq_zero _ _ _ List.not_mem_nil]
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.offCoord_eq_zero _ _ _ (fun h => ((GatherDims.mem_sKept _ _).mp h).1 (by decide))]
    unfold GatherDims.start
    rw [dif_pos (by decide), hsi]
    show min (idx (ix3 b t 0)).toInt.toNat 15 + 0 + 0 = b.val
    rw [h0, StableHlo.Predicate.toInt_ofNat_small _ (by omega)]
    omega
  · rw [GatherDims.offCoord_eq_zero _ _ _ (fun h => ((GatherDims.mem_sKept _ _).mp h).1 (by decide))]
    unfold GatherDims.start
    rw [dif_pos (by decide), hsi]
    show min (idx (ix3 b t 1)).toInt.toNat 511 + 0 + 0 = t.val
    rw [h1, StableHlo.Predicate.toInt_ofNat_small _ (by omega)]
    omega
  · unfold GatherDims.start
    rw [dif_neg (by decide)]
    show 0 + 0 + e.val = e.val
    omega

include h1 in
/-- Where every duration is one, the regulated embedding is the embedding. -/
theorem regulated (x0 : FVec Ideal S16x512x512 .f32) : val_main_v130 (F := Ideal) x0 x1 = x0 := by
  funext i
  obtain ⟨b, t, e, rfl⟩ : ∃ b t e, i = ix3 b t e := ⟨i 0, i 1, i 2, by funext a; match a with | ⟨0, _⟩ => rfl | ⟨1, _⟩ => rfl | ⟨2, _⟩ => rfl⟩
  exact gather_eq x0 _ b t e (batch_eq x1 b t) (position_eq h1 b t)

end Cert.RLen

end
-- ==== Proof.RValues.lean ====
module

public import proofs.«01_k».proof.Proof.RStages
public import proofs.«01_k».proof.Proof.KValues

@[expose] public section

set_option maxRecDepth 16384
set_option synthInstance.maxSize 4096

noncomputable section

/-! The reference's stages at the exact values: on real inputs each reads as its formula over the reals. -/
namespace Cert.RValues

open Cert.ReferenceIdeal Cert.ReferenceIdeal.Gen Idealize.ShloMosaic Cert

/-- The integer zero as an exact value. -/
theorem zero_int : FloatOps.sitofp (F := Ideal) .f32 (0#32 : BitVec 32) = ((0 : ℝ) : EReal) := by
  show (((0#32 : BitVec 32).toInt : ℝ) : EReal) = _
  simp

section
variable {x : FVec Ideal S16x512x512 .f32} {b : Fin 16} {X : Fin 512 → Fin 512 → ℝ}
  (hx : ∀ l d, x (ix3 b d l) = ((X l d : ℝ) : EReal))
include hx

theorem product_eq {w : FVec Ideal S512x512x1 .f32} {W : Fin 512 → Fin 512 → ℝ}
    (hw : ∀ d o, w (ix3 o d 0) = ((W d o : ℝ) : EReal)) (l o : Fin 512) :
    RStages.product x w (ix3 b o l) = ((∑ d, X l d * W d o : ℝ) : EReal) := by
  unfold RStages.product RStages.flip
  pointwise
  rw [Spec.coe_sum]
  exact Finset.sum_congr rfl fun d _ => by rw [hx, hw, EReal.coe_mul]

theorem tap0_eq {w : FVec Ideal S512x512x3 .f32} {W : Fin 512 → Fin 512 → ℝ}
    (hw : ∀ d o, w (ix3 o d 0) = ((W d o : ℝ) : EReal)) (l o : Fin 512) :
    RStages.tap0 x w (ix3 b o l) = ((∑ d, Spec.prev X l d * W d o : ℝ) : EReal) := by
  unfold RStages.tap0
  refine product_eq (X := Spec.prev X) (W := W) (fun l d => ?_) (fun d o => ?_) l o
  · unfold RStages.padded
    pointwise
    unfold Spec.prev
    by_cases h : 0 < l.1
    · rw [dif_pos h, dif_pos (by omega), hx]
    · rw [dif_neg h, dif_neg (by omega), zero_int]
  · pointwise
    exact hw d o

theorem tap1_eq {w : FVec Ideal S512x512x3 .f32} {W : Fin 512 → Fin 512 → ℝ}
    (hw : ∀ d o, w (ix3 o d 1) = ((W d o : ℝ) : EReal)) (l o : Fin 512) :
    RStages.tap1 x w (ix3 b o l) = ((∑ d, X l d * W d o : ℝ) : EReal) := by
  unfold RStages.tap1
  refine product_eq (X := X) (W := W) (fun l d => ?_) (fun d o => ?_) l o
  · unfold RStages.padded
    pointwise
    exact hx l d
  · pointwise
    exact hw d o

theorem tap2_eq {w : FVec Ideal S512x512x3 .f32} {W : Fin 512 → Fin 512 → ℝ}
    (hw : ∀ d o, w (ix3 o d 2) = ((W d o : ℝ) : EReal)) (l o : Fin 512) :
    RStages.tap2 x w (ix3 b o l) = ((∑ d, Spec.next X l d * W d o : ℝ) : EReal) := by
  unfold RStages.tap2
  refine product_eq (X := Spec.next X) (W := W) (fun l d => ?_) (fun d o => ?_) l o
  · unfold RStages.padded
    pointwise
    unfold Spec.next
    by_cases h : l.1 < 511
    · rw [dif_pos h, dif_pos (by omega), show (⟨2 + l.1 - 1, by omega⟩ : Fin 512) = ⟨l.1 + 1, by omega⟩ from Fin.ext (by simp only; omega), hx]
    · rw [dif_neg h, dif_neg (by omega), zero_int]
  · pointwise
    exact hw d o

theorem conv_eq {w : FVec Ideal S512x512x3 .f32} {W0 W1 W2 : Fin 512 → Fin 512 → ℝ} {c : FVec Ideal S512 .f32}
    {C : Fin 512 → ℝ} (h0 : ∀ d o, w (ix3 o d 0) = ((W0 d o : ℝ) : EReal)) (h1 : ∀ d o, w (ix3 o d 1) = ((W1 d o : ℝ) : EReal))
    (h2 : ∀ d o, w (ix3 o d 2) = ((W2 d o : ℝ) : EReal)) (hc : ∀ o, c (ix1 o) = ((C o : ℝ) : EReal)) (l o : Fin 512) :
    RStages.conv x w c (ix3 b o l) = ((Spec.conv X W0 W1 W2 C l o : ℝ) : EReal) := by
  unfold RStages.conv
  pointwise
  rw [tap0_eq hx h0, tap1_eq hx h1, tap2_eq hx h2, hc]
  unfold Spec.conv
  rw [Spec.coe_max, EReal.coe_add, EReal.coe_add, EReal.coe_add, EReal.coe_zero]

theorem mean_eq (o : Fin 512) : RStages.mean x (ix3 b o 0) = ((Spec.mean X o : ℝ) : EReal) := by
  unfold RStages.mean
  pointwise
  rw [KValues.ofBits_512, Finset.sum_congr rfl fun l _ => hx l o, ← Spec.coe_sum, KValues.div_512]
  rfl

theorem centred_eq (l o : Fin 512) : RStages.centred x (ix3 b o l) = ((X l o - Spec.mean X o : ℝ) : EReal) := by
  unfold RStages.centred
  pointwise
  rw [hx, mean_eq hx, EReal.coe_sub]

theorem deviation_eq (o : Fin 512) : RStages.deviation x (ix3 b o 0) = ((√(Spec.var X o + Spec.eps) : ℝ) : EReal) := by
  unfold RStages.deviation
  pointwise
  rw [mean_eq (x := mulf (RStages.centred x) (RStages.centred x))
      (X := fun l o => (X l o - Spec.mean X o) * (X l o - Spec.mean X o))
      (fun l d => by pointwise; rw [centred_eq hx, EReal.coe_mul]),
    KValues.ofBits_eps, ← EReal.coe_add, Ideal.sqrt_coe]
  exact if_neg (not_lt.2 (Spec.var_eps_pos X o).le)

theorem norm_eq {lw lb : FVec Ideal S512 .f32} {LW LB : Fin 512 → ℝ} (hw : ∀ l, lw (ix1 l) = ((LW l : ℝ) : EReal))
    (hb : ∀ l, lb (ix1 l) = ((LB l : ℝ) : EReal)) (l o : Fin 512) :
    RStages.norm x lw lb (ix3 b o l) = ((Spec.norm X LW LB l o : ℝ) : EReal) := by
  unfold RStages.norm RStages.spread
  pointwise
  rw [centred_eq hx, deviation_eq hx, hw, hb, Ideal.div_coe (Real.sqrt_pos.2 (Spec.var_eps_pos X o)).ne']
  unfold Spec.norm Spec.inv
  rw [EReal.coe_add, EReal.coe_mul, EReal.coe_mul, one_div]

theorem head_eq {w : FVec Ideal S1x512x1 .f32} {W : Fin 512 → ℝ} (hw : ∀ o, w (ix3 0 o 0) = ((W o : ℝ) : EReal))
    (c : FVec Ideal S1 .f32) (l : Fin 512) :
    RStages.head x w c (ix3 b l 0) = ((Spec.head X W l : ℝ) : EReal) + c (ix1 0) := by
  unfold RStages.head
  pointwise
  rw [Finset.sum_congr rfl fun o _ => by rw [hx l o, hw o, ← EReal.coe_mul], ← Spec.coe_sum]
  rfl

end

end Cert.RValues

end
-- ==== Proof.RealArg.lean ====
module

public import Idealize.ShloMosaic.PureOps.Ideal.Laws
public import Idealize.ShloMosaic.Lib.Pointwise
public import Idealize.ShloMosaic.Lib.IdealHost

@[expose] public section

noncomputable section

/-! Arrays of exact values that are real numbers. -/
namespace Cert.RealArg

open Idealize.ShloMosaic

/-- Every element is a real number. -/
def IsReal {s : Shape} (a : FVec Ideal s .f32) : Prop := ∀ i, a i = (((a i : EReal).toReal : ℝ) : EReal)

/-- An extended real below infinity in absolute value is a real number. -/
theorem coe_of_abs {a : EReal} (h : max a (-a) < ⊤) : a = ((a.toReal : ℝ) : EReal) := by
  refine (EReal.coe_toReal ?_ ?_).symm
  · rintro rfl
    simp at h
  · rintro rfl
    simp at h

/-- The bits of infinity. -/
theorem ofBits_inf : Ideal.ofBits .f32 0x7F800000#32 = (⊤ : EReal) := by
  simp [Ideal.ofBits, Ideal.ieee]

/-- The precondition's comparison says that every element is real. -/
theorem isReal_of_lt {s : Shape} {a : FVec Ideal s .f32} {b : FVec Ideal s .f32} (hb : ∀ i, b i = Ideal.ofBits .f32 0x7F800000#32)
    (h : cmpf .olt (Host.absf a) b = fun _ => 1#1) : IsReal a := fun i => by
  have e : Ideal.cmp .olt (max (a i : EReal) (-(a i : EReal))) (b i) = 1#1 := congrFun h i
  rw [hb, ofBits_inf] at e
  refine coe_of_abs ?_
  by_contra hn
  have z : Ideal.cmp .olt (max (a i : EReal) (-(a i : EReal))) ⊤ = 0#1 := congrArg BitVec.ofBool (decide_eq_false hn)
  exact absurd (z.symm.trans e) (by decide)

/-- The precondition's comparison says that every element is one. -/
theorem ones_of_eq {s : Shape} {a b : IVec s 32} (hb : ∀ i, b i = 1#32) (h : cmpi .eq a b = fun _ => 1#1) (i : s.Idx) : a i = 1#32 := by
  have e : BitVec.ofBool (a i == b i) = 1#1 := congrFun h i
  rw [hb] at e
  by_contra hn
  rw [beq_false_of_ne hn] at e
  exact absurd e (by decide)

end Cert.RealArg

end
-- ==== Proof.Results.lean ====
module

public import proofs.«01_k».proof.Proof.RLen
public import proofs.«01_k».proof.Proof.RValues
public import proofs.«01_k».proof.Proof.RealArg

@[expose] public section

set_option maxRecDepth 16384
set_option synthInstance.maxSize 4096

noncomputable section

/-! The two predictors as formulas over the real arguments, and the reference's results as those formulas. -/
namespace Cert.Results

open Cert.ReferenceIdeal Cert.ReferenceIdeal.Gen Cert.ReferenceIdeal.Read Idealize.ShloMosaic Cert Cert.RealArg

/-- One tap of the weights, from channel `d` to channel `o`. -/
def taps (a : FVec Ideal S512x512x3 .f32) (k : Fin 3) (d o : Fin 512) : ℝ := (a (ix3 o d k) : EReal).toReal

/-- A vector of numbers. -/
def vec (a : FVec Ideal S512 .f32) (l : Fin 512) : ℝ := (a (ix1 l) : EReal).toReal

/-- The weights of a projection. -/
def row (a : FVec Ideal S1x512x1 .f32) (o : Fin 512) : ℝ := (a (ix3 0 o 0) : EReal).toReal

/-- The embedding of one batch element. -/
def rows (a : FVec Ideal S16x512x512 .f32) (b : Fin 16) (l d : Fin 512) : ℝ := (a (ix3 b l d) : EReal).toReal

/-- The convolution followed by the layer normalisation. -/
def layer (X : Fin 512 → Fin 512 → ℝ) (w : FVec Ideal S512x512x3 .f32) (b lw lb : FVec Ideal S512 .f32) : Fin 512 → Fin 512 → ℝ :=
  Spec.norm (Spec.conv X (taps w 0) (taps w 1) (taps w 2) (vec b)) (vec lw) (vec lb)

/-- The predicted duration at position `l` of batch element `b`. -/
def duration (x0 : FVec Ideal S16x512x512 .f32) (x2 : FVec Ideal S512x512x3 .f32) (x3 x4 x5 : FVec Ideal S512 .f32)
    (x6 : FVec Ideal S512x512x3 .f32) (x7 x8 x9 : FVec Ideal S512 .f32) (x10 : FVec Ideal S1x512x1 .f32) (x11 : FVec Ideal S1 .f32)
    (b : Fin 16) (l : Fin 512) : EReal :=
  max (Ideal.exp (((Spec.head (layer (layer (rows x0 b) x2 x3 x4 x5) x6 x7 x8 x9) (row x10) l : ℝ) : EReal) + (x11 (ix1 0) : EReal))) 1

/-- The predicted pitch at position `l` of batch element `b`. -/
def pitch (x0 : FVec Ideal S16x512x512 .f32) (x12 : FVec Ideal S512x512x3 .f32) (x13 x14 x15 : FVec Ideal S512 .f32)
    (x16 : FVec Ideal S1x512x1 .f32) (x17 : FVec Ideal S1 .f32) (b : Fin 16) (l : Fin 512) : EReal :=
  ((Spec.head (layer (rows x0 b) x12 x13 x14 x15) (row x16) l : ℝ) : EReal) + (x17 (ix1 0) : EReal)

/-- One layer of the reference reads as that formula. -/
theorem layer_eq {x : FVec Ideal S16x512x512 .f32} {b : Fin 16} {X : Fin 512 → Fin 512 → ℝ}
    (hx : ∀ l d, x (ix3 b d l) = ((X l d : ℝ) : EReal)) {w : FVec Ideal S512x512x3 .f32} {c lw lb : FVec Ideal S512 .f32}
    (hw : IsReal w) (hc : IsReal c) (hlw : IsReal lw) (hlb : IsReal lb) (l o : Fin 512) :
    RStages.norm (RStages.conv x w c) lw lb (ix3 b o l) = ((layer X w c lw lb l o : ℝ) : EReal) :=
  RValues.norm_eq (RValues.conv_eq hx (fun _ _ => hw _) (fun _ _ => hw _) (fun _ _ => hw _) (fun _ => hc _)) (fun _ => hlw _)
    (fun _ => hlb _) l o

theorem flip_eq {x0 : FVec Ideal S16x512x512 .f32} (h0 : IsReal x0) (b : Fin 16) (l d : Fin 512) :
    RStages.flip x0 (ix3 b d l) = ((rows x0 b l d : ℝ) : EReal) := by
  unfold RStages.flip
  pointwise
  exact h0 _

/-- The reference's durations. -/
theorem durations_eq {x0 : FVec Ideal S16x512x512 .f32} {x2 : FVec Ideal S512x512x3 .f32} {x3 x4 x5 : FVec Ideal S512 .f32}
    {x6 : FVec Ideal S512x512x3 .f32} {x7 x8 x9 : FVec Ideal S512 .f32} {x10 : FVec Ideal S1x512x1 .f32}
    (h0 : IsReal x0) (h2 : IsReal x2) (h3 : IsReal x3) (h4 : IsReal x4) (h5 : IsReal x5) (h6 : IsReal x6) (h7 : IsReal x7)
    (h8 : IsReal x8) (h9 : IsReal x9) (h10 : IsReal x10) (x11 : FVec Ideal S1 .f32) (b : Fin 16) (l : Fin 512) :
    val_main_v102 (F := Ideal) x0 x2 x3 x4 x5 x6 x7 x8 x9 x10 x11 (ix3 b l 0) = duration x0 x2 x3 x4 x5 x6 x7 x8 x9 x10 x11 b l := by
  rw [RStages.durations]
  pointwise
  rw [RValues.head_eq (layer_eq (layer_eq (flip_eq h0 b) h2 h3 h4 h5) h6 h7 h8 h9) (W := row x10) (fun _ => h10 _) x11 l]
  rfl

/-- The reference's pitch, where every duration is one. -/
theorem pitch_eq {x0 : FVec Ideal S16x512x512 .f32} {x1 : IVec S16x512 32} {x12 : FVec Ideal S512x512x3 .f32}
    {x13 x14 x15 : FVec Ideal S512 .f32} {x16 : FVec Ideal S1x512x1 .f32} (h1 : ∀ i, x1 i = 1#32)
    (h0 : IsReal x0) (h12 : IsReal x12) (h13 : IsReal x13) (h14 : IsReal x14) (h15 : IsReal x15) (h16 : IsReal x16)
    (x17 : FVec Ideal S1 .f32) (b : Fin 16) (l : Fin 512) :
    val_main_v184 (F := Ideal) x0 x1 x12 x13 x14 x15 x16 x17 (ix3 b l 0) = pitch x0 x12 x13 x14 x15 x16 x17 b l := by
  rw [RStages.pitch, RLen.regulated h1]
  exact RValues.head_eq (layer_eq (flip_eq h0 b) h12 h13 h14 h15) (fun _ => h16 _) x17 l

end Cert.Results

end
-- ==== Proof.PreFacts.lean ====
module

public import proofs.«01_k».proof.Defs
public import proofs.«01_k».proof.Proof.RealArg
public import proofs.«01_k».proof.Proof.Gen.Pre_finite_and_ones

@[expose] public section

set_option maxRecDepth 16384
set_option synthInstance.maxSize 4096

noncomputable section

/-! What the precondition says of the arguments. -/
namespace Cert.PreFacts

open Cert.KernelIdeal Idealize.ShloMosaic Idealize.ShloMosaic.TcCoe Idealize.SL.Sem Cert.RealArg

/-- The arguments on one device: every duration is one, and every array the predictors multiply or normalise by is real. -/
structure Real (m : (ℓ : Loc nD τ sig) → Buf (Elt Ideal) ℓ) (c : Dev nD) : Prop where
  ones : ∀ i, (m ((c : Thread nD τ).loc main_arg1) : IVec S16x512 32) i = 1#32
  r0 : IsReal (s := S16x512x512) (m ((c : Thread nD τ).loc main_arg0))
  r2 : IsReal (s := S512x512x3) (m ((c : Thread nD τ).loc main_arg2))
  r3 : IsReal (s := S512) (m ((c : Thread nD τ).loc main_arg3))
  r4 : IsReal (s := S512) (m ((c : Thread nD τ).loc main_arg4))
  r5 : IsReal (s := S512) (m ((c : Thread nD τ).loc main_arg5))
  r6 : IsReal (s := S512x512x3) (m ((c : Thread nD τ).loc main_arg6))
  r7 : IsReal (s := S512) (m ((c : Thread nD τ).loc main_arg7))
  r8 : IsReal (s := S512) (m ((c : Thread nD τ).loc main_arg8))
  r9 : IsReal (s := S512) (m ((c : Thread nD τ).loc main_arg9))
  r10 : IsReal (s := S1x512x1) (m ((c : Thread nD τ).loc main_arg10))
  r12 : IsReal (s := S512x512x3) (m ((c : Thread nD τ).loc main_arg12))
  r13 : IsReal (s := S512) (m ((c : Thread nD τ).loc main_arg13))
  r14 : IsReal (s := S512) (m ((c : Thread nD τ).loc main_arg14))
  r15 : IsReal (s := S512) (m ((c : Thread nD τ).loc main_arg15))
  r16 : IsReal (s := S1x512x1) (m ((c : Thread nD τ).loc main_arg16))

theorem real_of_pre [Cert.Pre_finite_and_ones.Facts] (m : (ℓ : Loc nD τ sig) → Buf (Elt Ideal) ℓ)
    (h : Cert.Pre_KernelIdeal_finite_and_ones m) (c : Dev nD) : Real m c := by
  obtain ⟨h1, h0, h2, h3, h4, h5, h6, h7, h8, h9, h10, h12, h13, h14, h15, h16⟩ := h c
  exact ⟨ones_of_eq (fun _ => rfl) h1, isReal_of_lt (fun _ => rfl) h0, isReal_of_lt (fun _ => rfl) h2,
    isReal_of_lt (fun _ => rfl) h3, isReal_of_lt (fun _ => rfl) h4, isReal_of_lt (fun _ => rfl) h5,
    isReal_of_lt (fun _ => rfl) h6, isReal_of_lt (fun _ => rfl) h7, isReal_of_lt (fun _ => rfl) h8,
    isReal_of_lt (fun _ => rfl) h9, isReal_of_lt (fun _ => rfl) h10, isReal_of_lt (fun _ => rfl) h12,
    isReal_of_lt (fun _ => rfl) h13, isReal_of_lt (fun _ => rfl) h14, isReal_of_lt (fun _ => rfl) h15,
    isReal_of_lt (fun _ => rfl) h16⟩

end Cert.PreFacts

end
-- ==== Proof.KFinal.lean ====
module

public import proofs.«01_k».proof.Proof.KArr
public import proofs.«01_k».proof.Proof.KLeft
public import proofs.«01_k».proof.Proof.Results
public import proofs.«01_k».proof.Proof.PreFacts

@[expose] public section

set_option maxRecDepth 16384
set_option synthInstance.maxSize 4096

noncomputable section

/-! The kernel's final arrays as the formulas of the two predictors. -/
namespace Cert.KFinal

open Cert.KernelIdeal Cert.KernelIdeal.Gen Cert.KernelIdeal.Value Idealize.ShloMosaic Idealize.ShloMosaic.TcCoe Idealize.SL.Sem
open Cert Cert.KOut Cert.KArr Cert.RealArg Cert.Results Cert.PreFacts

/-- The batch element at place `q` of the pair that holds `b`. -/
def mate (b : Fin 16) (q : Fin 2) : Fin 16 := ⟨2 * (b.1 / 2) + q.1, by omega⟩

theorem point_mate (b : Fin 16) (q : Fin 2) : point (mate b q) = point b := by
  unfold point mate
  exact Fin.ext (by simp only; omega)

theorem part_mate (b : Fin 16) (q : Fin 2) : part (mate b q) = q := by
  unfold part mate
  exact Fin.ext (by simp only; omega)

theorem mate_part (b : Fin 16) : mate b (part b) = b := by
  unfold part mate
  exact Fin.ext (by simp only; omega)

variable {m : (ℓ : Loc nD τ sig) → Buf (Elt Ideal) ℓ} {c : Dev nD} (hr : Real m c)

/-- An argument array as the reference's formulas take it. -/
abbrev a0 (m : (ℓ : Loc nD τ sig) → Buf (Elt Ideal) ℓ) (c : Dev nD) : FVec Ideal S16x512x512 .f32 := m ((c : Thread nD τ).loc main_arg0)

/-- The nine taps of the packed weights. -/
def weights (a b c : FVec Ideal S512x512x3 .f32) : Fin 9 → Fin 512 → Fin 512 → ℝ :=
  ![taps a 0, taps a 1, taps a 2, taps b 0, taps b 1, taps b 2, taps c 0, taps c 1, taps c 2]

theorem weights_eq {a b c : FVec Ideal S512x512x3 .f32} (ha : IsReal a) (hb : IsReal b) (hc : IsReal c) (k : Fin 9) (d o : Fin 512) :
    KHost.packed (F := Ideal) a b c (ix3 k d o) = ((weights a b c k d o : ℝ) : EReal) := by
  rw [KHost.packed_apply]
  fin_cases k
  · exact ha _
  · exact ha _
  · exact ha _
  · exact hb _
  · exact hb _
  · exact hb _
  · exact hc _
  · exact hc _
  · exact hc _

/-- The six scales and shifts of the packed columns. -/
def scales (a b c d e f : FVec Ideal S512 .f32) (l : Fin 512) : Fin 6 → ℝ := ![vec a l, vec b l, vec c l, vec d l, vec e l, vec f l]

theorem scales_eq {a b c d e f : FVec Ideal S512 .f32} (ha : IsReal a) (hb : IsReal b) (hc : IsReal c) (hd : IsReal d) (he : IsReal e)
    (hf : IsReal f) (l : Fin 512) (k : Fin 6) :
    KHost.columns (F := Ideal) a b c d e f (ix2 l k) = ((scales a b c d e f l k : ℝ) : EReal) := by
  rw [KHost.columns_apply]
  fin_cases k
  · exact ha _
  · exact hb _
  · exact hc _
  · exact hd _
  · exact he _
  · exact hf _

include hr

/-- The two batch elements a grid point holds. -/
theorem rows_eq (b : Fin 16) (q : Fin 2) (l d : Fin 512) :
    b0 m c (point b) (ix3 q l d) = ((rows (a0 m c) (mate b q) l d : ℝ) : EReal) := by
  have h := b0_eq m c (mate b q) l d
  rw [point_mate, part_mate] at h
  exact h.trans (hr.r0 _)

theorem duration_eq (b : Fin 16) (l : Fin 512) :
    (dats m 0 c).arrAt 10 cfg0.N (ix3 b l 0 : S16x512x1.Idx)
      = duration (m ((c : Thread nD τ).loc main_arg0)) (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9))
          (m ((c : Thread nD τ).loc main_arg10)) (m ((c : Thread nD τ).loc main_arg11)) b l := by
  rw [arr10, b1_eq, b2_eq, b3_eq, b5_eq, b6_eq, b8_eq, KHost.V_taps, KHost.V_cols, KHost.V_row10, V_main_arg3, V_main_arg7, V_main_arg11]
  refine (KLeft.left10_eq (weights_eq hr.r2 hr.r12 hr.r6) (scales_eq hr.r4 hr.r5 hr.r8 hr.r9 hr.r14 hr.r15) (rows_eq hr b)
    (B := vec (m ((c : Thread nD τ).loc main_arg3))) (fun _ => hr.r3 _) (B' := vec (m ((c : Thread nD τ).loc main_arg7))) (fun _ => hr.r7 _)
    (P := row (m ((c : Thread nD τ).loc main_arg10))) (fun o => (KHost.row_apply _ o).trans (hr.r10 _)) _ (part b) l).trans ?_
  rw [mate_part]
  rfl

theorem pitch_eq (b : Fin 16) (l : Fin 512) :
    (dats m 0 c).arrAt 11 cfg0.N (ix3 b l 0 : S16x512x1.Idx)
      = pitch (m ((c : Thread nD τ).loc main_arg0)) (m ((c : Thread nD τ).loc main_arg12)) (m ((c : Thread nD τ).loc main_arg13))
          (m ((c : Thread nD τ).loc main_arg14)) (m ((c : Thread nD τ).loc main_arg15)) (m ((c : Thread nD τ).loc main_arg16))
          (m ((c : Thread nD τ).loc main_arg17)) b l := by
  rw [arr11, b1_eq, b2_eq, b4_eq, b7_eq, b9_eq, KHost.V_taps, KHost.V_cols, KHost.V_row16, V_main_arg13, V_main_arg17]
  refine (KLeft.left11_eq (weights_eq hr.r2 hr.r12 hr.r6) (scales_eq hr.r4 hr.r5 hr.r8 hr.r9 hr.r14 hr.r15) (rows_eq hr b)
    (B := vec (m ((c : Thread nD τ).loc main_arg13))) (fun _ => hr.r13 _)
    (P := row (m ((c : Thread nD τ).loc main_arg16))) (fun o => (KHost.row_apply _ o).trans (hr.r16 _)) _ (part b) l).trans ?_
  rw [mate_part]
  rfl

end Cert.KFinal

end
-- ==== Proof.Agree.lean ====
module

public import proofs.«01_k».proof.Proof.KFinal

@[expose] public section

set_option maxRecDepth 16384
set_option synthInstance.maxSize 4096

noncomputable section

/-! The kernel's three final arrays are the reference's three results of the same arguments. -/
namespace Cert.Agree

open Cert.ReferenceIdeal Cert.ReferenceIdeal.Read Idealize.ShloMosaic

/-- Equal arguments, equal upsampled embedding. -/
theorem upsampled_congr {x0 y0 : FVec Ideal S16x512x512 .f32} {x1 y1 : IVec S16x512 32}
    (e0 : y0 = x0) (e1 : y1 = x1) :
    val_main_v130 (F := Ideal) y0 y1
      = val_main_v130 (F := Ideal) x0 x1 := by
  rw [e0, e1]

/-- Equal arguments, equal durations. -/
theorem durations_congr {x0 y0 : FVec Ideal S16x512x512 .f32} {x2 y2 : FVec Ideal S512x512x3 .f32} {x3 y3 : FVec Ideal S512 .f32} {x4 y4 : FVec Ideal S512 .f32} {x5 y5 : FVec Ideal S512 .f32} {x6 y6 : FVec Ideal S512x512x3 .f32} {x7 y7 : FVec Ideal S512 .f32} {x8 y8 : FVec Ideal S512 .f32} {x9 y9 : FVec Ideal S512 .f32} {x10 y10 : FVec Ideal S1x512x1 .f32} {x11 y11 : FVec Ideal S1 .f32}
    (e0 : y0 = x0) (e2 : y2 = x2) (e3 : y3 = x3) (e4 : y4 = x4) (e5 : y5 = x5) (e6 : y6 = x6) (e7 : y7 = x7) (e8 : y8 = x8) (e9 : y9 = x9) (e10 : y10 = x10) (e11 : y11 = x11) :
    val_main_v102 (F := Ideal) y0 y2 y3 y4 y5 y6 y7 y8 y9 y10 y11
      = val_main_v102 (F := Ideal) x0 x2 x3 x4 x5 x6 x7 x8 x9 x10 x11 := by
  rw [e0, e2, e3, e4, e5, e6, e7, e8, e9, e10, e11]

/-- Equal arguments, equal pitch. -/
theorem pitch_congr {x0 y0 : FVec Ideal S16x512x512 .f32} {x1 y1 : IVec S16x512 32} {x12 y12 : FVec Ideal S512x512x3 .f32} {x13 y13 : FVec Ideal S512 .f32} {x14 y14 : FVec Ideal S512 .f32} {x15 y15 : FVec Ideal S512 .f32} {x16 y16 : FVec Ideal S1x512x1 .f32} {x17 y17 : FVec Ideal S1 .f32}
    (e0 : y0 = x0) (e1 : y1 = x1) (e12 : y12 = x12) (e13 : y13 = x13) (e14 : y14 = x14) (e15 : y15 = x15) (e16 : y16 = x16) (e17 : y17 = x17) :
    val_main_v184 (F := Ideal) y0 y1 y12 y13 y14 y15 y16 y17
      = val_main_v184 (F := Ideal) x0 x1 x12 x13 x14 x15 x16 x17 := by
  rw [e0, e1, e12, e13, e14, e15, e16, e17]

end Cert.Agree

namespace Cert.Agree

open Cert.KernelIdeal Cert.KernelIdeal.Gen Cert.KernelIdeal.Value Idealize.ShloMosaic Idealize.ShloMosaic.TcCoe
open Cert.ReferenceIdeal.Read Cert.PreFacts

variable {m : (ℓ : Loc nD τ sig) → Buf (Elt Ideal) ℓ} {c : Dev nD} (hr : Real m c)

include hr

/-- The copied embedding is the regulated one. -/
theorem upsampled_array :
    (dats m 0 c).arrAt 12 cfg0.N = val_main_v130 (F := Ideal) (m ((c : Thread nD τ).loc main_arg0)) (m ((c : Thread nD τ).loc main_arg1)) := by
  rw [RLen.regulated hr.ones]
  funext i
  rw [ValueIdx.eq_ix3 i]
  exact KArr.arr12 m c _ _ _

/-- The kernel's durations are the reference's. -/
theorem durations_array :
    (dats m 0 c).arrAt 10 cfg0.N = val_main_v102 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  funext i
  obtain ⟨b, l, rfl⟩ : ∃ b l, i = (ix3 b l 0 : S16x512x1.Idx) := ⟨i 0, i 1, by rw [ValueIdx.eq_ix3 i]; congr 1; exact Subsingleton.elim (α := Fin 1) _ _⟩
  exact (KFinal.duration_eq hr b l).trans
    (Results.durations_eq hr.r0 hr.r2 hr.r3 hr.r4 hr.r5 hr.r6 hr.r7 hr.r8 hr.r9 hr.r10 _ b l).symm

/-- The kernel's pitch is the reference's. -/
theorem pitch_array :
    (dats m 0 c).arrAt 11 cfg0.N = val_main_v184 (F := Ideal) (m ((c : Thread nD τ).loc main_arg0)) (m ((c : Thread nD τ).loc main_arg1)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  funext i
  obtain ⟨b, l, rfl⟩ : ∃ b l, i = (ix3 b l 0 : S16x512x1.Idx) := ⟨i 0, i 1, by rw [ValueIdx.eq_ix3 i]; congr 1; exact Subsingleton.elim (α := Fin 1) _ _⟩
  exact (KFinal.pitch_eq hr b l).trans (Results.pitch_eq hr.ones hr.r0 hr.r12 hr.r13 hr.r14 hr.r15 hr.r16 _ b l).symm

end Cert.Agree

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_and_ones
public import proofs.«01_k».proof.Proof.Agree

@[expose] public section

set_option maxRecDepth 16384

noncomputable section

namespace Cert.Proof

open Idealize.ShloMosaic Idealize.SL.Sem

/-- The reference changes no argument; it declares no semaphore. -/
theorem frame_reference : Cert.quiescent_ReferenceIdeal := fun m ρ _ =>
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

/-- Both programs end with the reference's three results of the shared arguments. -/
theorem algebraic : Cert.algebraic_KernelIdeal_ReferenceIdeal_pre_finite_and_ones := by
  intro m ρ m' ρ' hpre hagree
  refine ⟨fun c => Cert.ReferenceIdeal.Read.val_main_v130 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.ReferenceIdeal.Read.val_main_v102 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.ReferenceIdeal.Read.val_main_v184 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)), ?_, ?_⟩
  · refine (θ_run Cert.KernelIdeal.defs _ _).mono (fun r h c => ?_) (Cert.KernelIdeal.Value.run_blocks (F := Ideal) m ρ)
    have hr := Cert.PreFacts.real_of_pre m hpre c
    obtain ⟨h1, h2, h0, hargs⟩ := h c
    exact ⟨h0.trans (Cert.Agree.upsampled_array hr), h1.trans (Cert.Agree.durations_array hr),
      h2.trans (Cert.Agree.pitch_array hr), hargs⟩
  · refine (θ_run Cert.ReferenceIdeal.defs _ _).mono (fun r h c => ?_) (Cert.ReferenceIdeal.Value.run (F := Ideal) m' ρ')
    obtain ⟨e0, e1, e2, e3, e4, e5, e6, e7, e8, e9, e10, e11, e12, e13, e14, e15, e16, e17⟩ := hagree c
    obtain ⟨h0, h1, h2, hargs⟩ := h c
    exact ⟨(h0.trans (Cert.ReferenceIdeal.Read.val_main_v130_eq _)).trans (Cert.Agree.upsampled_congr e0 e1),
      (h1.trans (Cert.ReferenceIdeal.Read.val_main_v102_eq _)).trans
        (Cert.Agree.durations_congr e0 e2 e3 e4 e5 e6 e7 e8 e9 e10 e11),
      (h2.trans (Cert.ReferenceIdeal.Read.val_main_v184_eq _)).trans
        (Cert.Agree.pitch_congr e0 e1 e12 e13 e14 e15 e16 e17), hargs⟩

theorem claim : Cert.Claim :=
  ⟨Cert.Kernel.Gen.facts, Cert.KernelIdeal.Gen.facts, Cert.ReferenceIdeal.Gen.facts, Cert.Pre_finite_and_ones.Gen.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial, trivial, algebraic⟩

end Cert.Proof

end
